-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_v20) = v1 c
          ∧ r.2.mem ((c.tc : Thread Cert.ReferenceIdeal.nD Cert.ReferenceIdeal.τ).loc Cert.ReferenceIdeal.main_v0) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S2x4096x2048 : Shape := ⟨3, ![2, 4096, 2048]⟩
abbrev S2048x16 : Shape := ⟨2, ![2048, 16]⟩
abbrev S_ : Shape := ⟨0, ![]⟩

class Facts : Prop where
  bcast_S_S2x4096x2048 : S_.BroadcastsInDim S2x4096x2048 (![] : Fin 0 → Fin S2x4096x2048.rank)
  reducesTo_S2x4096x2048_S_d0_1_2 : S2x4096x2048.ReducesTo [0, 1, 2] S_
  h_S_ : 0 < S_.numel
  bcast_S_S2048x16 : S_.BroadcastsInDim S2048x16 (![] : Fin 0 → Fin S2048x16.rank)
  reducesTo_S2048x16_S_d0_1 : S2048x16.ReducesTo [0, 1] S_

variable [Facts]

def fn {F : FTy → Type} [FloatOps F] (main_arg0 : FVec F S2x4096x2048 .f32) (main_arg1 : FVec F S2048x16 .f32) : IVec S_ 1 :=
  let main_v0 : FVec F S2x4096x2048 .f32 := Host.absf main_arg0
  let main_cst : FVec F S_ .f32 := constant S_ .f32 0x7F800000#32
  let main_v1 : FVec F S2x4096x2048 .f32 := broadcastInDim S2x4096x2048 ![] bcast_S_S2x4096x2048 main_cst
  let main_v2 : IVec S2x4096x2048 1 := cmpf .olt main_v0 main_v1
  let main_c : IVec S_ 1 := constantI S_ 1 1#1
  let main_v3 : IVec S_ 1 := (fun x v => Host.reduce IntOp.andi x v reducesTo_S2x4096x2048_S_d0_1_2 h_S_) main_v2 main_c
  let main_v4 : FVec F S2048x16 .f32 := Host.absf main_arg1
  let main_cst_0 : FVec F S_ .f32 := constant S_ .f32 0x7F800000#32
  let main_v5 : FVec F S2048x16 .f32 := broadcastInDim S2048x16 ![] bcast_S_S2048x16 main_cst_0
  let main_v6 : IVec S2048x16 1 := cmpf .olt main_v4 main_v5
  let main_c_1 : IVec S_ 1 := constantI S_ 1 1#1
  let main_v7 : IVec S_ 1 := (fun x v => Host.reduce IntOp.andi x v reducesTo_S2048x16_S_d0_1 h_S_) main_v6 main_c_1
  let main_v8 : IVec S_ 1 := andi main_v3 main_v7
  main_v8
-- ==== Kernel.lean ====
abbrev S2x4096x2048 : Shape := ⟨3, ![2, 4096, 2048]⟩
abbrev S2048x16 : Shape := ⟨2, ![2048, 16]⟩
abbrev S2x4096x16 : Shape := ⟨3, ![2, 4096, 16]⟩
abbrev S2x4096x1 : Shape := ⟨3, ![2, 4096, 1]⟩
abbrev S1x1024x2048 : Shape := ⟨3, ![1, 1024, 2048]⟩
abbrev S1x1024x16 : Shape := ⟨3, ![1, 1024, 16]⟩
abbrev S1x1024x1 : Shape := ⟨3, ![1, 1024, 1]⟩
abbrev S1x16 : Shape := ⟨2, ![1, 16]⟩
abbrev S256x256 : Shape := ⟨2, ![256, 256]⟩
abbrev S1024x2048 : Shape := ⟨2, ![1024, 2048]⟩
abbrev S1024x16 : Shape := ⟨2, ![1024, 16]⟩
abbrev S1024 : Shape := ⟨1, ![1024]⟩
abbrev S1024x1 : Shape := ⟨2, ![1024, 1]⟩
abbrev S16x16 : Shape := ⟨2, ![16, 16]⟩
abbrev S256x16 : Shape := ⟨2, ![256, 16]⟩
abbrev S1x256x16 : Shape := ⟨3, ![1, 256, 16]⟩

abbrev nBuf : Space → Nat
  | .hbm => 5
  | .vmem => 11
  | .smem => 0
  | _ => 0

abbrev bufTy : (tb : Table) → Fin (tcTables nBuf tb) → BufTy
  | .hbm, ⟨0, _⟩ => ⟨S2x4096x2048, .f32⟩
  | .hbm, ⟨1, _⟩ => ⟨S2048x16, .f32⟩
  | .hbm, ⟨2, _⟩ => ⟨S2x4096x16, .i32⟩
  | .hbm, ⟨3, _⟩ => ⟨S2x4096x1, .f32⟩
  | .hbm, ⟨4, _⟩ => ⟨S2x4096x16, .f32⟩
  | .local _ .vmem, ⟨0, _⟩ => ⟨S1x1024x2048, .f32⟩
  | .local _ .vmem, ⟨1, _⟩ => ⟨S1x1024x2048, .f32⟩
  | .local _ .vmem, ⟨2, _⟩ => ⟨S2048x16, .f32⟩
  | .local _ .vmem, ⟨3, _⟩ => ⟨S1x1024x16, .i32⟩
  | .local _ .vmem, ⟨4, _⟩ => ⟨S1x1024x16, .i32⟩
  | .local _ .vmem, ⟨5, _⟩ => ⟨S1x1024x1, .f32⟩
  | .local _ .vmem, ⟨6, _⟩ => ⟨S1x1024x1, .f32⟩
  | .local _ .vmem, ⟨7, _⟩ => ⟨S1x1024x16, .f32⟩
  | .local _ .vmem, ⟨8, _⟩ => ⟨S1x1024x16, .f32⟩
  | .local _ .vmem, ⟨9, _⟩ => ⟨S1x16, .f32⟩
  | .local _ .vmem, ⟨10, _⟩ => ⟨S256x256, .bf16⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S2048x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1024x16 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x16 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceIdeal.lean ====
abbrev S2x4096x2048 : Shape := ⟨3, ![2, 4096, 2048]⟩
abbrev S2048x16 : Shape := ⟨2, ![2048, 16]⟩
abbrev S2x4096x16 : Shape := ⟨3, ![2, 4096, 16]⟩
abbrev S_ : Shape := ⟨0, ![]⟩
abbrev S2x4096 : Shape := ⟨2, ![2, 4096]⟩
abbrev S2x4096x1 : Shape := ⟨3, ![2, 4096, 1]⟩
abbrev S1x1x16 : Shape := ⟨3, ![1, 1, 16]⟩

abbrev nBuf : Space → Nat
  | .hbm => 39
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S2048x16, .f32⟩
  | .hbm, ⟨2, _⟩ => ⟨S2x4096x16, .f32⟩
  | .hbm, ⟨3, _⟩ => ⟨S_, .f32⟩
  | .hbm, ⟨4, _⟩ => ⟨S2x4096, .f32⟩
  | .hbm, ⟨5, _⟩ => ⟨S_, .f32⟩
  | .hbm, ⟨6, _⟩ => ⟨S2x4096, .f32⟩
  | .hbm, ⟨7, _⟩ => ⟨S2x4096, .f32⟩
  | .hbm, ⟨8, _⟩ => ⟨S2x4096x1, .f32⟩
  | .hbm, ⟨9, _⟩ => ⟨S2x4096x16, .f32⟩
  | .hbm, ⟨10, _⟩ => ⟨S2x4096x16, .f32⟩
  | .hbm, ⟨11, _⟩ => ⟨S2x4096x16, .f32⟩
  | .hbm, ⟨12, _⟩ => ⟨S_, .f32⟩
  | .hbm, ⟨13, _⟩ => ⟨S2x4096, .f32⟩
  | .hbm, ⟨14, _⟩ => ⟨S2x4096x1, .f32⟩
  | .hbm, ⟨15, _⟩ => ⟨S2x4096x16, .f32⟩
  | .hbm, ⟨16, _⟩ => ⟨S2x4096x16, .f32⟩
  | .hbm, ⟨17, _⟩ => ⟨S2x4096x16, .i32⟩
  | .hbm, ⟨18, _⟩ => ⟨S_, .f32⟩
  | .hbm, ⟨19, _⟩ => ⟨S_, .i32⟩
  | .hbm, ⟨20, _⟩ => ⟨S2x4096, .f32⟩
  | .hbm, ⟨21, _⟩ => ⟨S2x4096, .i32⟩
  | .hbm, ⟨22, _⟩ => ⟨S2x4096x1, .i32⟩
  | .hbm, ⟨23, _⟩ => ⟨S1x1x16, .i32⟩
  | .hbm, ⟨24, _⟩ => ⟨S2x4096x16, .i32⟩
  | .hbm, ⟨25, _⟩ => ⟨S2x4096x16, .i32⟩
  | .hbm, ⟨26, _⟩ => ⟨S2x4096x16, .i1⟩
  | .hbm, ⟨27, _⟩ => ⟨S2x4096x16, .i32⟩
  | .hbm, ⟨28, _⟩ => ⟨S_, .i32⟩
  | .hbm, ⟨29, _⟩ => ⟨S_, .i32⟩
  | .hbm, ⟨30, _⟩ => ⟨S2x4096x16, .i32⟩
  | .hbm, ⟨31, _⟩ => ⟨S_, .i32⟩
  | .hbm, ⟨32, _⟩ => ⟨S2x4096x16, .i32⟩
  | .hbm, ⟨33, _⟩ => ⟨S2x4096x16, .i1⟩
  | .hbm, ⟨34, _⟩ => ⟨S2x4096x16, .i32⟩
  | .hbm, ⟨35, _⟩ => ⟨S2x4096x16, .i32⟩
  | .hbm, ⟨36, _⟩ => ⟨S_, .f32⟩
  | .hbm, ⟨37, _⟩ => ⟨S2x4096, .f32⟩
  | .hbm, ⟨38, _⟩ => ⟨S2x4096x1, .f32⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_call0_v0 : Ref sig .tc := ⟨.hbm, 17, rfl⟩
abbrev main_call0_cst : Ref sig .tc := ⟨.hbm, 18, rfl⟩
abbrev main_call0_c : Ref sig .tc := ⟨.hbm, 19, rfl⟩
abbrev main_call0_v1_0 : Ref sig .tc := ⟨.hbm, 20, rfl⟩
abbrev main_v12 : Ref sig .tc := ⟨.hbm, 21, rfl⟩
abbrev main_call1_v0 : Ref sig .tc := ⟨.hbm, 22, rfl⟩
abbrev main_call1_v1 : Ref sig .tc := ⟨.hbm, 23, rfl⟩
abbrev main_call1_v2 : Ref sig .tc := ⟨.hbm, 24, rfl⟩
abbrev main_call1_v3 : Ref sig .tc := ⟨.hbm, 25, rfl⟩
abbrev main_call1_v4 : Ref sig .tc := ⟨.hbm, 26, rfl⟩
abbrev main_v13 : Ref sig .tc := ⟨.hbm, 27, rfl⟩
abbrev main_call2_call0_c : Ref sig .tc := ⟨.hbm, 28, rfl⟩
abbrev main_call2_call0_v0 : Ref sig .tc := ⟨.hbm, 29, rfl⟩
abbrev main_v14 : Ref sig .tc := ⟨.hbm, 30, rfl⟩
abbrev main_c : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_cst_2 : Ref sig .tc := ⟨.hbm, 36, rfl⟩
abbrev main_v19 : Ref sig .tc := ⟨.hbm, 37, rfl⟩
abbrev main_v20 : Ref sig .tc := ⟨.hbm, 38, rfl⟩

abbrev nD : Nat := 1
abbrev τ : Topo := Topo.v7x

variable {F : FTy → Type} [FloatOps F]
-- ==== Proof.RefRun.lean ====
/-
  The reference's run: its operations in order, and what its three result buffers hold afterwards, as stages that are
  functions of the two arguments.
-/
module

public import proofs.«01_k».proof.Defs
public import proofs.«01_k».proof.Proof.Gen.ReferenceIdeal
public import Idealize.ShloMosaic.Lib.StableHlo.Run
public import Idealize.ShloMosaic.Lib.Tactic
public import Idealize.ShloMosaic.Lib.Quiescent

@[expose] public section

noncomputable section

open Idealize.ShloMosaic Idealize.ShloMosaic.TcCoe Idealize.SL.Sem

namespace Cert.ReferenceIdeal.Value

open Cert.ReferenceIdeal Cert.ReferenceIdeal.Gen Idealize.ShloMosaic.StableHlo

/-! ## The stages -/

/-- The router's logits: the tokens times the router's weights. -/
abbrev logits (x : FVec Ideal S2x4096x2048 .f32) (w : FVec Ideal S2048x16 .f32) : FVec Ideal S2x4096x16 .f32 :=
  Host.dotGeneral dot_S2x4096x2048_S2048x16_S2x4096x16_2_0_01_1_n_n none x w

/-- The row maximum that the softmax subtracts: never below minus infinity. -/
abbrev rowMax (L : FVec Ideal S2x4096x16 .f32) : FVec Ideal S2x4096 .f32 :=
  maximumf (broadcastInDim S2x4096 ![] bcast_S_S2x4096 (constant S_ .f32 0xFF800000#32))
    (Host.reduce FloatOps.maximumf L (constant S_ .f32 0xFF800000#32) reducesTo_S2x4096x16_S2x4096_d2 h_S_)

/-- The exponentials of the logits less their row's maximum. -/
abbrev expo (L : FVec Ideal S2x4096x16 .f32) : FVec Ideal S2x4096x16 .f32 :=
  Host.exp (subf L (broadcastInDim S2x4096x16 ![0, 1, 2] bcast_S2x4096x1_S2x4096x16_0_1_2
    (broadcastInDim S2x4096x1 ![0, 1] bcast_S2x4096_S2x4096x1_0_1 (rowMax L))))

/-- The softmax: each exponential over its row's sum. -/
abbrev probs (L : FVec Ideal S2x4096x16 .f32) : FVec Ideal S2x4096x16 .f32 :=
  Host.divf (expo L) (broadcastInDim S2x4096x16 ![0, 1, 2] bcast_S2x4096x1_S2x4096x16_0_1_2
    (broadcastInDim S2x4096x1 ![0, 1] bcast_S2x4096_S2x4096x1_0_1
      (Host.reduceAdd (expo L) (constant S_ .f32 0x00000000#32) reducesTo_S2x4096x16_S2x4096_d2 h_S_)))

/-- The chosen expert of each token: the first column at which the row is greatest. -/
abbrev choice (Q : FVec Ideal S2x4096x16 .f32) : IVec S2x4096 32 :=
  fun j => (Host.argReduce reducer_argmax_f32_i32 Q (iotaInDim S2x4096x16 32 2) (constant S_ .f32 0xFF800000#32)
    (constantI S_ 32 0#32) reducesTo_S2x4096x16_S2x4096_d2 h_S_ j).2

/-- The choice as a row of zeros with a one at the chosen expert. -/
abbrev oneHot (e : IVec S2x4096 32) : IVec S2x4096x16 32 :=
  extui 32 (cmpi .eq
    (broadcastInDim S2x4096x16 ![0, 1, 2] bcast_S2x4096x1_S2x4096x16_0_1_2
      (broadcastInDim S2x4096x1 ![0, 1] bcast_S2x4096_S2x4096x1_0_1 e))
    (broadcastInDim S2x4096x16 ![0, 1, 2] bcast_S1x1x16_S2x4096x16_0_1_2 (iotaInDim S1x1x16 32 2))) natLt_1_32

/-- A token's place in each expert's queue: the running sum of the choices along the tokens. -/
abbrev place (o : IVec S2x4096x16 32) : IVec S2x4096x16 32 :=
  Host.reduceWindow IntOp.addi ![1, 4096, 1] ![1, 1, 1] ![0, 4095, 0] ![0, 0, 0] o
    (broadcastInDim S_ ![] bcast_S_S_ (constantI S_ 32 0#32))
    reduceWindows_S2x4096x16_S2x4096x16_w1s1p0_0_w4096s1p4095_0_w1s1p0_0 h_S_

/-- The choices that find a place within the capacity. -/
abbrev kept (o : IVec S2x4096x16 32) : IVec S2x4096x16 32 :=
  muli o (extui 32 (cmpi .sle (place o) (broadcastInDim S2x4096x16 ![] bcast_S_S2x4096x16 (constantI S_ 32 512#32))) natLt_1_32)

/-- The greatest probability of each token. -/
abbrev best (Q : FVec Ideal S2x4096x16 .f32) : FVec Ideal S2x4096x1 .f32 :=
  broadcastInDim S2x4096x1 ![0, 1] bcast_S2x4096_S2x4096x1_0_1
    (Host.reduce FloatOps.maximumf Q (constant S_ .f32 0xFF800000#32) reducesTo_S2x4096x16_S2x4096_d2 h_S_)

/-! ## The run -/

/-- The reference's operations, its module-local functions' in their calls' places. -/
abbrev ops : List (HloOp τ sig (Elt Ideal)) :=
  [ binary main_arg0 main_arg1 main_v0 logits,
    nullary main_cst (constant (F := Ideal) S_ .f32 0xFF800000#32),
    binary main_v0 main_cst main_v1 (fun (x : FVec Ideal S2x4096x16 .f32) (v : FVec Ideal S_ .f32) => Host.reduce (FloatOps.maximumf (F := Ideal) (φ := .f32)) x v reducesTo_S2x4096x16_S2x4096_d2 h_S_),
    nullary main_cst_0 (constant (F := Ideal) S_ .f32 0xFF800000#32),
    unary main_cst_0 main_v2 (broadcastInDim S2x4096 ![] bcast_S_S2x4096),
    binary main_v2 main_v1 main_v3 (maximumf (F := Ideal) (φ := .f32)),
    unary main_v3 main_v4 (broadcastInDim S2x4096x1 ![0, 1] bcast_S2x4096_S2x4096x1_0_1),
    unary main_v4 main_v5 (broadcastInDim S2x4096x16 ![0, 1, 2] bcast_S2x4096x1_S2x4096x16_0_1_2),
    binary main_v0 main_v5 main_v6 (subf (F := Ideal) (φ := .f32)),
    unary main_v6 main_v7 (Host.exp (F := Ideal) (φ := .f32)),
    nullary main_cst_1 (constant (F := Ideal) S_ .f32 0x00000000#32),
    binary main_v7 main_cst_1 main_v8 (fun (x : FVec Ideal S2x4096x16 .f32) (v : FVec Ideal S_ .f32) => Host.reduceAdd x v reducesTo_S2x4096x16_S2x4096_d2 h_S_),
    unary main_v8 main_v9 (broadcastInDim S2x4096x1 ![0, 1] bcast_S2x4096_S2x4096x1_0_1),
    unary main_v9 main_v10 (broadcastInDim S2x4096x16 ![0, 1, 2] bcast_S2x4096x1_S2x4096x16_0_1_2),
    binary main_v7 main_v10 main_v11 (Host.divf (F := Ideal) (φ := .f32)),
    nullary main_call0_v0 (iotaInDim S2x4096x16 32 2),
    nullary main_call0_cst (constant (F := Ideal) S_ .f32 0xFF800000#32),
    nullary main_call0_c (constantI S_ 32 0#32),
    quaternary main_v11 main_call0_v0 main_call0_cst main_call0_c main_call0_v1_0 (fun (x : FVec Ideal S2x4096x16 .f32) (y : IVec S2x4096x16 32) (u : FVec Ideal S_ .f32) (v : IVec S_ 32) j => (Host.argReduce (reducer_argmax_f32_i32 (F := Ideal)) x y u v reducesTo_S2x4096x16_S2x4096_d2 h_S_ j).1),
    quaternary main_v11 main_call0_v0 main_call0_cst main_call0_c main_v12 (fun (x : FVec Ideal S2x4096x16 .f32) (y : IVec S2x4096x16 32) (u : FVec Ideal S_ .f32) (v : IVec S_ 32) j => (Host.argReduce (reducer_argmax_f32_i32 (F := Ideal)) x y u v reducesTo_S2x4096x16_S2x4096_d2 h_S_ j).2),
    unary main_v12 main_call1_v0 (broadcastInDim S2x4096x1 ![0, 1] bcast_S2x4096_S2x4096x1_0_1),
    nullary main_call1_v1 (iotaInDim S1x1x16 32 2),
    unary main_call1_v0 main_call1_v2 (broadcastInDim S2x4096x16 ![0, 1, 2] bcast_S2x4096x1_S2x4096x16_0_1_2),
    unary main_call1_v1 main_call1_v3 (broadcastInDim S2x4096x16 ![0, 1, 2] bcast_S1x1x16_S2x4096x16_0_1_2),
    binary main_call1_v2 main_call1_v3 main_call1_v4 (cmpi .eq),
    unary main_call1_v4 main_v13 (extui 32 · natLt_1_32),
    nullary main_call2_call0_c (constantI S_ 32 0#32),
    unary main_call2_call0_c main_call2_call0_v0 (broadcastInDim S_ ![] bcast_S_S_),
    binary main_v13 main_call2_call0_v0 main_v14 (fun (x : IVec S2x4096x16 32) (v : IVec S_ 32) => Host.reduceWindow IntOp.addi ![1, 4096, 1] ![1, 1, 1] ![0, 4095, 0] ![0, 0, 0] x v reduceWindows_S2x4096x16_S2x4096x16_w1s1p0_0_w4096s1p4095_0_w1s1p0_0 h_S_),
    nullary main_c (constantI S_ 32 512#32),
    unary main_c main_v15 (broadcastInDim S2x4096x16 ![] bcast_S_S2x4096x16),
    binary main_v14 main_v15 main_v16 (cmpi .sle),
    unary main_v16 main_v17 (extui 32 · natLt_1_32),
    binary main_v13 main_v17 main_v18 muli,
    nullary main_cst_2 (constant (F := Ideal) S_ .f32 0xFF800000#32),
    binary main_v11 main_cst_2 main_v19 (fun (x : FVec Ideal S2x4096x16 .f32) (v : FVec Ideal S_ .f32) => Host.reduce (FloatOps.maximumf (F := Ideal) (φ := .f32)) x v reducesTo_S2x4096x16_S2x4096_d2 h_S_),
    unary main_v19 main_v20 (broadcastInDim S2x4096x1 ![0, 1] bcast_S2x4096_S2x4096x1_0_1) ]

/-- The printed program is that line of operations. -/
theorem main_eq (c : Dev nD) : main (F := Ideal) c = seq ops := by sl_kernel_rfl

/-- The reference scopes no buffer; -/
theorem scopedRefs_eq : (Finset.univ.filter fun b : Ref sig .tc => b.isScoped) = ∅ := by decide
/-- nor any semaphore. -/
theorem scopedSems_eq : (Finset.univ.filter fun sm : SemLoc sig => sm.isScoped .tc) = ∅ := by decide

/-- Every operation touches the TensorCore's buffers alone. -/
theorem ops_sub : (ops : List (HloOp τ sig (Elt Ideal))).Forall fun op => op.bufs ⊆ tcRefs τ sig := by
  simp [ops]

/-- From any memory with zero counters the reference ends with its three results at the stages of its arguments, and
    its arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v18) = kept (oneHot (choice (probs (logits (m ((c : Thread nD τ).loc main_arg0)) (m ((c : Thread nD τ).loc main_arg1))))))
      ∧ r.2.mem ((c : Thread nD τ).loc main_v20) = best (probs (logits (m ((c : Thread nD τ).loc main_arg0)) (m ((c : Thread nD τ).loc main_arg1))))
      ∧ r.2.mem ((c : Thread nD τ).loc main_v0) = logits (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c main_v18).trans (by after_results; rfl), (h c main_v20).trans (by after_results),
      (h c main_v0).trans (by after_results), (h c main_arg0).trans (by after_results), (h c main_arg1).trans (by after_results)⟩)
    (run_seq scopedRefs_eq scopedSems_eq defs main (fun _ => ops) main_eq (fun _ => ops_sub) m ρ)

/-- The reference runs, leaves its arguments as they were, and every counter at zero. -/
theorem frame (m : (ℓ : Loc nD τ sig) → Buf (Elt Ideal) ℓ) (ρ : Dev nD → PrngReg) :
    θ_run defs (onTc (τ := τ) (main (F := Ideal))) ⟨m, fun _ => 0, ρ⟩ fun r => (∀ c : Dev nD,
      r.2.mem ((c : Thread nD τ).loc main_arg0) = m ((c : Thread nD τ).loc main_arg0)
      ∧ r.2.mem ((c : Thread nD τ).loc main_arg1) = m ((c : Thread nD τ).loc main_arg1))
      ∧ r.2.sem = fun _ => 0 :=
  (θ_run defs _ _).mono (fun r h => ⟨fun c => (h c).2.2.2, sem_eq_zero_of_no_sems (by decide) r.2⟩) (run m ρ)

end Cert.ReferenceIdeal.Value

end
-- ==== Proof.Cases.lean ====
module

public import proofs.«01_k».proof.Proof.Gen.KernelIdeal.Value
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.KernelIdeal.Cases

open Cert.KernelIdeal Cert.KernelIdeal.Gen

variable (c : Dev nD) (i : grid0.Coords) (arg2 : Memref sig .tc .vmem S1x1024x2048 .f32) (harg2 : arg2.IsWhole) (arg3 : Memref sig .tc .vmem S2048x16 .f32) (harg3 : arg3.IsWhole) (arg4 : Memref sig .tc .vmem S1x1024x16 .i32) (harg4 : arg4.IsWhole) (arg5 : Memref sig .tc .vmem S1x1024x1 .f32) (harg5 : arg5.IsWhole) (arg6 : Memref sig .tc .vmem S1x1024x16 .f32) (harg6 : arg6.IsWhole) (arg7 : Memref sig .tc .vmem S1x16 .f32) (harg7 : arg7.IsWhole) (arg8 : Memref sig .tc .vmem S256x256 .bf16) (harg8 : arg8.IsWhole)
  (x0 : Vec Ideal S1x1024x2048 .f32) (x1 : Vec Ideal S2048x16 .f32) (xs0 : Vec Ideal S1x16 .f32) (xs1 : Vec Ideal S256x256 .bf16)

/-- The selected experts of a block's tokens: the row's largest score, first one of equal ones. -/
abbrev sel (x : Vec Ideal S1x1024x2048 .f32) (w : Vec Ideal S2048x16 .f32) : Vec Ideal S1024x16 .i1 :=
  k0_pay11 (k0_pay9 x w) (k0_pay10 (F := Ideal))

/-- The selection as numbers, what the prefix sums add up. -/
abbrev selNum (x : Vec Ideal S1x1024x2048 .f32) (w : Vec Ideal S2048x16 .f32) : Vec Ideal S1024x16 .bf16 :=
  k0_pay12 (k0_pay9 x w) (k0_pay10 (F := Ideal))

abbrev carry1 (x : Vec Ideal S1x1024x2048 .f32) (w : Vec Ideal S2048x16 .f32)
    (tri : Vec Ideal S256x256 .bf16) (cr : Vec Ideal S1x16 .f32) : Vec Ideal S1x16 .f32 :=
  k0_pay14 (k0_pay9 x w) (k0_pay10 (F := Ideal)) tri cr

abbrev carry2 (x : Vec Ideal S1x1024x2048 .f32) (w : Vec Ideal S2048x16 .f32)
    (tri : Vec Ideal S256x256 .bf16) (cr : Vec Ideal S1x16 .f32) : Vec Ideal S1x16 .f32 :=
  k0_pay19 (carry1 x w tri cr) (k0_pay18 (k0_pay9 x w) (k0_pay10 (F := Ideal)) tri)

abbrev carry3 (x : Vec Ideal S1x1024x2048 .f32) (w : Vec Ideal S2048x16 .f32)
    (tri : Vec Ideal S256x256 .bf16) (cr : Vec Ideal S1x16 .f32) : Vec Ideal S1x16 .f32 :=
  k0_pay22 (selNum x w) tri (carry2 x w tri cr)

abbrev carry4 (x : Vec Ideal S1x1024x2048 .f32) (w : Vec Ideal S2048x16 .f32)
    (tri : Vec Ideal S256x256 .bf16) (cr : Vec Ideal S1x16 .f32) : Vec Ideal S1x16 .f32 :=
  k0_pay1 (k0_pay24 (selNum x w) tri) (carry3 x w tri cr)

/-- The four stored quarters of a block's first result, laid over the block. -/
abbrev marks (x : Vec Ideal S1x1024x2048 .f32) (w : Vec Ideal S2048x16 .f32)
    (tri : Vec Ideal S256x256 .bf16) (cr : Vec Ideal S1x16 .f32) : Vec Ideal S1x1024x16 .i32 :=
  View.canon
      [⟨Rect.unit ![0, 768, 0] ![1, 256, 16] inb_S1x1024x16_S1x256x16_0_768_0,
          k0_pay2 (sel x w) (k0_pay25 (selNum x w) tri (carry3 x w tri cr))⟩,
        ⟨Rect.unit ![0, 512, 0] ![1, 256, 16] inb_S1x1024x16_S1x256x16_0_512_0,
          k0_pay23 (sel x w) (selNum x w) tri (carry2 x w tri cr)⟩,
        ⟨Rect.unit ![0, 256, 0] ![1, 256, 16] inb_S1x1024x16_S1x256x16_0_256_0,
          k0_pay20 (sel x w) (k0_pay17 (k0_pay9 x w) (k0_pay10 (F := Ideal)) tri (carry1 x w tri cr))⟩,
        ⟨Rect.unit ![0, 0, 0] ![1, 256, 16] inb_S1x1024x16_S1x256x16_0_0_0,
          k0_pay15 (k0_pay9 x w) (k0_pay10 (F := Ideal)) tri cr⟩]

theorem out0_A_2_eq (hc0 : cond0_0 i) (hc1 : cond0_1 i) :
    out0_A_2 (F := Ideal) c i arg2 harg2 arg3 harg3 arg4 harg4 arg5 harg5 arg6 harg6 arg7 harg7 arg8 harg8 hc0 hc1 x0 x1 = marks x0 x1 (k0_pay3 (F := Ideal)) (k0_pay4 (F := Ideal)) := by
  frame_out

theorem out0_A_3_eq (hc0 : cond0_0 i) (hc1 : cond0_1 i) :
    out0_A_3 (F := Ideal) c i arg2 harg2 arg3 harg3 arg4 harg4 arg5 harg5 arg6 harg6 arg7 harg7 arg8 harg8 hc0 hc1 x0 x1 = k0_pay8 x0 x1 := by
  frame_out

theorem out0_A_4_eq (hc0 : cond0_0 i) (hc1 : cond0_1 i) :
    out0_A_4 (F := Ideal) c i arg2 harg2 arg3 harg3 arg4 harg4 arg5 harg5 arg6 harg6 arg7 harg7 arg8 harg8 hc0 hc1 x0 x1 = k0_pay6 x0 x1 := by
  frame_out

theorem sout0_A_0_eq (hc0 : cond0_0 i) (hc1 : cond0_1 i) :
    sout0_A_0 (F := Ideal) c i arg2 harg2 arg3 harg3 arg4 harg4 arg5 harg5 arg6 harg6 arg7 harg7 arg8 harg8 hc0 hc1 x0 x1 = carry4 x0 x1 (k0_pay3 (F := Ideal)) (k0_pay4 (F := Ideal)) := by
  frame_out

theorem sout0_A_1_eq (hc0 : cond0_0 i) (hc1 : cond0_1 i) :
    sout0_A_1 (F := Ideal) c i arg2 harg2 arg3 harg3 arg4 harg4 arg5 harg5 arg6 harg6 arg7 harg7 arg8 harg8 hc0 hc1 x0 x1 = (k0_pay3 (F := Ideal)) := by
  frame_out

theorem out0_B_2_eq (hc0 : ¬cond0_0 i) (hc1 : ¬cond0_1 i) :
    out0_B_2 (F := Ideal) c i arg2 harg2 arg3 harg3 arg4 harg4 arg5 harg5 arg6 harg6 arg7 harg7 arg8 harg8 hc0 hc1 x0 x1 xs0 xs1 = marks x0 x1 xs1 xs0 := by
  frame_out

theorem out0_B_3_eq (hc0 : ¬cond0_0 i) (hc1 : ¬cond0_1 i) :
    out0_B_3 (F := Ideal) c i arg2 harg2 arg3 harg3 arg4 harg4 arg5 harg5 arg6 harg6 arg7 harg7 arg8 harg8 hc0 hc1 x0 x1 xs0 xs1 = k0_pay8 x0 x1 := by
  frame_out

theorem out0_B_4_eq (hc0 : ¬cond0_0 i) (hc1 : ¬cond0_1 i) :
    out0_B_4 (F := Ideal) c i arg2 harg2 arg3 harg3 arg4 harg4 arg5 harg5 arg6 harg6 arg7 harg7 arg8 harg8 hc0 hc1 x0 x1 xs0 xs1 = k0_pay6 x0 x1 := by
  frame_out

theorem sout0_B_0_eq (hc0 : ¬cond0_0 i) (hc1 : ¬cond0_1 i) :
    sout0_B_0 (F := Ideal) c i arg2 harg2 arg3 harg3 arg4 harg4 arg5 harg5 arg6 harg6 arg7 harg7 arg8 harg8 hc0 hc1 x0 x1 xs0 xs1 = carry4 x0 x1 xs1 xs0 := by
  frame_out

theorem sout0_B_1_eq (hc0 : ¬cond0_0 i) (hc1 : ¬cond0_1 i) :
    sout0_B_1 (F := Ideal) c i arg2 harg2 arg3 harg3 arg4 harg4 arg5 harg5 arg6 harg6 arg7 harg7 arg8 harg8 hc0 hc1 x0 x1 xs0 xs1 = xs1 := by
  rfl

theorem out0_C_2_eq (hc0 : ¬cond0_0 i) (hc1 : cond0_1 i) :
    out0_C_2 (F := Ideal) c i arg2 harg2 arg3 harg3 arg4 harg4 arg5 harg5 arg6 harg6 arg7 harg7 arg8 harg8 hc0 hc1 x0 x1 xs1 = marks x0 x1 xs1 (k0_pay4 (F := Ideal)) := by
  frame_out

theorem out0_C_3_eq (hc0 : ¬cond0_0 i) (hc1 : cond0_1 i) :
    out0_C_3 (F := Ideal) c i arg2 harg2 arg3 harg3 arg4 harg4 arg5 harg5 arg6 harg6 arg7 harg7 arg8 harg8 hc0 hc1 x0 x1 xs1 = k0_pay8 x0 x1 := by
  frame_out

theorem out0_C_4_eq (hc0 : ¬cond0_0 i) (hc1 : cond0_1 i) :
    out0_C_4 (F := Ideal) c i arg2 harg2 arg3 harg3 arg4 harg4 arg5 harg5 arg6 harg6 arg7 harg7 arg8 harg8 hc0 hc1 x0 x1 xs1 = k0_pay6 x0 x1 := by
  frame_out

theorem sout0_C_0_eq (hc0 : ¬cond0_0 i) (hc1 : cond0_1 i) :
    sout0_C_0 (F := Ideal) c i arg2 harg2 arg3 harg3 arg4 harg4 arg5 harg5 arg6 harg6 arg7 harg7 arg8 harg8 hc0 hc1 x0 x1 xs1 = carry4 x0 x1 xs1 (k0_pay4 (F := Ideal)) := by
  frame_out

theorem sout0_C_1_eq (hc0 : ¬cond0_0 i) (hc1 : cond0_1 i) :
    sout0_C_1 (F := Ideal) c i arg2 harg2 arg3 harg3 arg4 harg4 arg5 harg5 arg6 harg6 arg7 harg7 arg8 harg8 hc0 hc1 x0 x1 xs1 = xs1 := by
  rfl

end Cert.KernelIdeal.Cases

end
-- ==== Proof.Counting.lean ====
module

public import Idealize.ShloMosaic.Lib.Pointwise

/-! Counting the places where a condition holds, and the two shapes in which sums of zeros and ones say it. -/

@[expose] public section

noncomputable section

open Idealize.ShloMosaic Idealize.ShloMosaic.TcCoe

namespace Cert.Counting

/-- How many of the first `n` numbers satisfy `S`. -/
def tally (S : ℕ → Prop) (n : ℕ) : ℕ := by
  classical exact Nat.count S n

open Classical in
theorem tally_eq_count (S : ℕ → Prop) (n : ℕ) : tally S n = Nat.count S n := by
  unfold tally; congr

/-- No numbers, none counted. -/
theorem tally_zero (S : ℕ → Prop) : tally S 0 = 0 := by
  classical simp [tally_eq_count]

/-- One number more adds one exactly if it satisfies the condition. -/
theorem tally_succ (S : ℕ → Prop) (n : ℕ) [Decidable (S n)] :
    tally S (n + 1) = tally S n + if S n then 1 else 0 := by
  classical rw [tally_eq_count, tally_eq_count, Nat.count_succ]; congr

/-- A count over a stretch cut in two. -/
theorem tally_add (S : ℕ → Prop) (a b : ℕ) :
    tally S (a + b) = tally S a + tally (fun k => S (a + k)) b := by
  classical rw [tally_eq_count, tally_eq_count, tally_eq_count, Nat.count_add]

/-- A count is at most the number of places looked at. -/
theorem tally_le (S : ℕ → Prop) (n : ℕ) : tally S n ≤ n := by
  classical rw [tally_eq_count]; exact Nat.count_le S

/-- Two conditions that agree on the first `n` numbers have the same count there. -/
theorem tally_congr {S T : ℕ → Prop} {n : ℕ} (h : ∀ k < n, (S k ↔ T k)) : tally S n = tally T n := by
  classical
  induction n with
  | zero => rw [tally_zero, tally_zero]
  | succ n ih =>
    rw [tally_succ, tally_succ, ih fun k hk => h k (by omega)]
    simp only [h n (by omega)]

/-- The row of a lower triangle of ones picks the first `r + 1` of `n` flags: their sum is their count. -/
theorem sum_triangle {n : ℕ} (S : ℕ → Prop) [DecidablePred S] (r : ℕ) (hr : r < n) :
    (∑ k : Fin n, (if k.val ≤ r then (1 : EReal) else 0) * (if S k.val then 1 else 0))
      = ((tally S (r + 1) : ℕ) : EReal) := by
  have key : ∀ m : ℕ, (∑ k ∈ Finset.range m, if k ≤ r ∧ S k then 1 else 0) = tally S (min m (r + 1)) := by
    intro m
    induction m with
    | zero => simp [tally_zero]
    | succ m ih =>
      rw [Finset.sum_range_succ, ih]
      by_cases hm : m ≤ r
      · rw [show min (m + 1) (r + 1) = m + 1 by omega, show min m (r + 1) = m by omega, tally_succ]
        simp [hm]
      · rw [show min (m + 1) (r + 1) = r + 1 by omega, show min m (r + 1) = r + 1 by omega]
        simp [hm]
  rw [← (show min n (r + 1) = r + 1 by omega), ← key n, Finset.sum_range, Nat.cast_sum]
  refine Finset.sum_congr rfl fun k _ => ?_
  by_cases h1 : k.val ≤ r <;> by_cases h2 : S k.val <;> simp [h1, h2]

/-- A sum of products of flags vanishes exactly if no place has both flags. -/
theorem sum_flags_eq_zero {n : ℕ} (P Q : Fin n → Prop) [DecidablePred P] [DecidablePred Q] :
    (∑ k : Fin n, (if P k then (1 : EReal) else 0) * (if Q k then 1 else 0)) = 0 ↔ ∀ k, Q k → ¬ P k := by
  rw [Finset.sum_eq_zero_iff_of_nonneg]
  · simp only [Finset.mem_univ, true_imp_iff]
    refine forall_congr' fun k => ?_
    by_cases h1 : P k <;> by_cases h2 : Q k <;> simp [h1, h2]
  · intro k _
    by_cases h1 : P k <;> by_cases h2 : Q k <;> simp [h1, h2]

/-- A one-bit flag widened and read as a number is one or zero. -/
theorem flag_num (b : BitVec 1) :
    FloatOps.sitofp (F := Ideal) FTy.f32 (BitVec.setWidth 32 b) = if b = 1#1 then (1 : EReal) else 0 := by
  rcases (by decide : ∀ b : BitVec 1, b = 0#1 ∨ b = 1#1) b with rfl | rfl
  · show ((((BitVec.setWidth 32 0#1).toInt : ℝ)) : EReal) = _
    simp
  · show ((((BitVec.setWidth 32 1#1).toInt : ℝ)) : EReal) = _
    simp

/-- A truth value as a bit is the set bit exactly if it is true. -/
theorem ofBool_eq_one (P : Prop) [Decidable P] : BitVec.ofBool (decide P) = 1#1 ↔ P := by
  by_cases h : P <;> simp [h]

/-- The conjunction of two bits is set exactly if both are. -/
theorem andi_eq_one (a b : BitVec 1) : IntOp.andi a b = 1#1 ↔ a = 1#1 ∧ b = 1#1 := by
  revert a b; decide

/-- A flag widened to 32 bits. -/
theorem flag_word (b : BitVec 1) : BitVec.setWidth 32 b = if b = 1#1 then 1#32 else 0#32 := by
  revert b; decide

theorem ofBool_true (b : Bool) : BitVec.ofBool b = 1#1 ↔ b = true := by
  revert b; decide

/-- A small number as a 32-bit word reads back as itself. -/
theorem toInt_small {k : ℕ} (h : k < 2 ^ 31) : (BitVec.ofNat 32 k).toInt = k := by
  rw [BitVec.toInt_eq_toNat_of_lt] <;> rw [BitVec.toNat_ofNat, Nat.mod_eq_of_lt (by omega)]
  omega

/-- `e` is the first place of a row that holds the row's largest entry. -/
def First {n : ℕ} (L : Fin n → EReal) (e : Fin n) : Prop :=
  (∀ k, L k ≤ L e) ∧ ∀ k, k < e → L k ≠ L e

/-- An entry equals the row's maximum, taken from below everything, exactly if no entry exceeds it. -/
theorem eq_fold_max {n : ℕ} (L : Fin n → EReal) (e : Fin n) :
    L e = Finset.fold max ⊥ L Finset.univ ↔ ∀ k, L k ≤ L e := by
  have hle : L e ≤ Finset.fold max ⊥ L Finset.univ :=
    (Finset.le_fold_max _).2 (Or.inr ⟨e, Finset.mem_univ _, le_rfl⟩)
  constructor
  · intro h k
    rw [h]
    exact (Finset.le_fold_max _).2 (Or.inr ⟨k, Finset.mem_univ _, le_rfl⟩)
  · intro h
    refine le_antisymm hle ((Finset.fold_max_le _).2 ⟨bot_le, fun k _ => h k⟩)

end Cert.Counting

end
-- ==== Proof.Values.lean ====
module

public import proofs.«01_k».proof.Proof.Cases
public import proofs.«01_k».proof.Proof.Counting

/-! What one grid point computes, element by element. -/

@[expose] public section

set_option maxRecDepth 16384

noncomputable section

open Idealize.ShloMosaic Idealize.ShloMosaic.TcCoe Idealize.SL.Sem

namespace Cert.KernelIdeal.Values

open Cert.KernelIdeal Cert.KernelIdeal.Gen Cert.KernelIdeal.Cases Cert.Counting

variable (x : Vec Ideal S1x1024x2048 .f32) (w : Vec Ideal S2048x16 .f32)
variable (tri : Vec Ideal S256x256 .bf16) (cr : Vec Ideal S1x16 .f32)

/-- The scores of token `r` of a block. -/
def score (r : Fin 1024) (e : Fin 16) : EReal := ∑ k : Fin 2048, x (ix3 0 r k) * w (ix2 k e)

theorem pay5_apply (r : Fin 1024) (e : Fin 16) : k0_pay5 (F := Ideal) x w (ix2 r e) = score x w r e := by
  pointwise [k0_pay5, score]

/-- The third result of a block is its scores. -/
theorem pay6_apply (r : Fin 1024) (e : Fin 16) :
    k0_pay6 (F := Ideal) x w (ix3 0 r e) = score x w r e := by
  rw [← pay5_apply]; pointwise [k0_pay6]

theorem neg_inf : Ideal.ofBits FTy.f32 4286578688#32 = (⊥ : EReal) := by
  simp [Ideal.ofBits, Ideal.ieee]

theorem capacity : Ideal.ofBits FTy.f32 1140850688#32 = ((512 : ℕ) : EReal) := by
  rw [show ((512 : ℕ) : EReal) = ((512 : ℝ) : EReal) from rfl]
  simp [Ideal.ofBits, Ideal.ieee, -EReal.coe_mul]; norm_num

/-- The second result of a block: one over the sum of the exponentials of the scores below the row's maximum. -/
theorem pay8_apply (r : Fin 1024) :
    k0_pay8 (F := Ideal) x w (ix3 0 r 0)
      = Ideal.div 1 (∑ e : Fin 16, Ideal.exp (score x w r e - Finset.fold max ⊥ (score x w r) Finset.univ)) := by
  pointwise [k0_pay8, k0_pay7]
  simp only [pay5_apply, neg_inf]

/-- The mask of largest scores holds exactly where no score of the row is larger. -/
theorem pay9_apply (r : Fin 1024) (e : Fin 16) :
    k0_pay9 (F := Ideal) x w (ix2 r e) = 1#1 ↔ ∀ k, score x w r k ≤ score x w r e := by
  pointwise [k0_pay9, k0_pay7]
  simp only [pay5_apply, neg_inf]
  rw [ofBool_eq_one]
  exact eq_fold_max (score x w r) e

/-- The strict upper triangle of ones. -/
theorem pay10_apply (k e : Fin 16) :
    k0_pay10 (F := Ideal) (ix2 k e) = if k < e then (1 : EReal) else 0 := by
  pointwise [k0_pay10]
  rw [flag_num]
  refine if_congr ?_ rfl rfl
  revert k e; decide +kernel

/-- A token's selected expert is the first one with the row's largest score. -/
theorem sel_apply (r : Fin 1024) (e : Fin 16) : sel x w (ix2 r e) = 1#1 ↔ First (score x w r) e := by
  pointwise [sel, k0_pay11]
  simp only [flag_num, pay10_apply]
  rw [andi_eq_one, ofBool_eq_one, sum_flags_eq_zero, pay9_apply]
  simp only [pay9_apply]
  refine and_congr_right fun h => forall_congr' fun k => imp_congr_right fun _ => ?_
  constructor
  · intro hk he; exact hk fun j => he ▸ h j
  · intro hk hj; exact hk (le_antisymm (h k) (hj e))

/-- Whether token `r` of a block (any number, none beyond the block) selects expert `e`. -/
def Picks (e : Fin 16) (r : ℕ) : Prop := ∃ h : r < 1024, sel x w (ix2 ⟨r, h⟩ e) = 1#1

instance (e : Fin 16) : DecidablePred (Picks x w e) := fun _ => by unfold Picks; infer_instance

theorem picks_val (r : Fin 1024) (e : Fin 16) : Picks x w e r.val ↔ sel x w (ix2 r e) = 1#1 :=
  ⟨fun ⟨_, h⟩ => h, fun h => ⟨r.isLt, h⟩⟩

theorem selNum_apply (r : Fin 1024) (e : Fin 16) :
    selNum x w (ix2 r e) = if Picks x w e r.val then (1 : EReal) else 0 := by
  pointwise [selNum, k0_pay12]
  rw [flag_num]
  exact if_congr (picks_val x w r e).symm rfl rfl

/-- The matrix is the lower triangle of ones, its diagonal included. -/
def IsTriangle : Prop := ∀ r k : Fin 256, tri (ix2 r k) = if k.val ≤ r.val then (1 : EReal) else 0

/-- The matrix stored at the first grid point is the lower triangle. -/
theorem pay3_triangle : IsTriangle (k0_pay3 (F := Ideal)) := by
  intro r k
  pointwise [k0_pay3]
  rw [flag_num]
  refine if_congr ?_ rfl rfl
  have hr : (BitVec.ofNat 32 r.val).toInt = r.val := toInt_small (by omega)
  have hk : (BitVec.ofNat 32 k.val).toInt = k.val := toInt_small (by omega)
  show BitVec.ofBool (BitVec.sle (BitVec.ofNat 32 k.val) (BitVec.ofNat 32 r.val)) = 1#1 ↔ _
  rw [ofBool_true, BitVec.sle_iff_toInt_le, hr, hk]
  omega

/-- The carry stored at a group's first grid point is zero. -/
theorem pay4_apply (e : Fin 16) : k0_pay4 (F := Ideal) (ix2 0 e) = 0 := by
  pointwise [k0_pay4]

variable {tri}

/-- A quarter's prefix sums: how many of its tokens up to row `r` select the expert. -/
theorem prefix_sum (ht : IsTriangle tri) (e : Fin 16) (o : ℕ) (ho : o + 256 ≤ 1024) (r : Fin 256) :
    (∑ k : Fin 256, tri (ix2 r k) * selNum x w (ix2 ⟨o + k.val, by omega⟩ e))
      = ((tally (fun k => Picks x w e (o + k)) (r.val + 1) : ℕ) : EReal) := by
  rw [← sum_triangle (fun k => Picks x w e (o + k)) r.val r.isLt]
  refine Finset.sum_congr rfl fun k _ => ?_
  rw [ht r k, selNum_apply]

theorem prefix_sum_first (ht : IsTriangle tri) (e : Fin 16) (r : Fin 256) :
    (∑ k : Fin 256, tri (ix2 r k) * selNum x w (ix2 ⟨k.val, by omega⟩ e))
      = ((tally (Picks x w e) (r.val + 1) : ℕ) : EReal) := by
  have h := prefix_sum x w ht e 0 (by omega) r
  simp only [Nat.zero_add] at h
  exact h

/-- The last row of a quarter's prefix sums is the whole quarter's count. -/
theorem quarter_sum (ht : IsTriangle tri) (e : Fin 16) (o : ℕ) (ho : o + 256 ≤ 1024) :
    (∑ k : Fin 256, tri (ix2 255 k) * selNum x w (ix2 ⟨o + k.val, by omega⟩ e))
      = ((tally (fun k => Picks x w e (o + k)) 256 : ℕ) : EReal) := prefix_sum x w ht e o ho 255

theorem quarter_sum_first (ht : IsTriangle tri) (e : Fin 16) :
    (∑ k : Fin 256, tri (ix2 255 k) * selNum x w (ix2 ⟨k.val, by omega⟩ e))
      = ((tally (Picks x w e) 256 : ℕ) : EReal) := prefix_sum_first x w ht e 255

/-! The carry after each quarter: what came in plus the tokens of the block so far that select the expert. -/

theorem carry1_apply (ht : IsTriangle tri) {n : ℕ} {e : Fin 16} (hcr : cr (ix2 0 e) = ((n : ℕ) : EReal)) :
    carry1 x w tri cr (ix2 0 e) = ((n + tally (Picks x w e) 256 : ℕ) : EReal) := by
  rw [Nat.cast_add, ← hcr, ← quarter_sum_first x w ht e]
  pointwise [carry1, k0_pay14, k0_pay13]

theorem carry2_apply (ht : IsTriangle tri) {n : ℕ} {e : Fin 16} (hcr : cr (ix2 0 e) = ((n : ℕ) : EReal)) :
    carry2 x w tri cr (ix2 0 e) = ((n + tally (Picks x w e) 512 : ℕ) : EReal) := by
  rw [show 512 = 256 + 256 from rfl, tally_add, ← Nat.add_assoc, Nat.cast_add, ← carry1_apply x w cr ht hcr,
    ← quarter_sum x w ht e 256 (by omega)]
  pointwise [carry2, k0_pay19, k0_pay18, k0_pay16]

theorem carry3_apply (ht : IsTriangle tri) {n : ℕ} {e : Fin 16} (hcr : cr (ix2 0 e) = ((n : ℕ) : EReal)) :
    carry3 x w tri cr (ix2 0 e) = ((n + tally (Picks x w e) 768 : ℕ) : EReal) := by
  rw [show 768 = 512 + 256 from rfl, tally_add, ← Nat.add_assoc, Nat.cast_add, ← carry2_apply x w cr ht hcr,
    ← quarter_sum x w ht e 512 (by omega)]
  pointwise [carry3, k0_pay22, k0_pay21]

theorem carry4_apply (ht : IsTriangle tri) {n : ℕ} {e : Fin 16} (hcr : cr (ix2 0 e) = ((n : ℕ) : EReal)) :
    carry4 x w tri cr (ix2 0 e) = ((n + tally (Picks x w e) 1024 : ℕ) : EReal) := by
  rw [show 1024 = 768 + 256 from rfl, tally_add, ← Nat.add_assoc, Nat.cast_add, ← carry3_apply x w cr ht hcr,
    ← quarter_sum x w ht e 768 (by omega)]
  pointwise [carry4, k0_pay1, k0_pay24]

/-- A mark from its flag and its prefix sum: set exactly for a selected expert within the capacity. -/
theorem mark_word {b : BitVec 1} {c : EReal} {S : Prop} {m : ℕ} [Decidable (S ∧ m ≤ 512)] (hb : b = 1#1 ↔ S)
    (hc : c = ((m : ℕ) : EReal)) :
    BitVec.setWidth 32 (IntOp.andi b (BitVec.ofBool (decide (c ≤ Ideal.ofBits FTy.f32 1140850688#32))))
      = if S ∧ m ≤ 512 then 1#32 else 0#32 := by
  rw [flag_word]
  refine if_congr ?_ rfl rfl
  rw [andi_eq_one, ofBool_eq_one, hb, hc, capacity, Nat.cast_le]

/-- A prefix sum of a later quarter together with the carry at its start. -/
theorem priority (ht : IsTriangle tri) {e : Fin 16} {c : EReal} {n : ℕ} (o : ℕ) (ho : o + 256 ≤ 1024) (r : Fin 256)
    (hc : c = ((n + tally (Picks x w e) o : ℕ) : EReal)) :
    (∑ k : Fin 256, tri (ix2 r k) * selNum x w (ix2 ⟨o + k.val, by omega⟩ e)) + c
      = ((n + tally (Picks x w e) (o + r.val + 1) : ℕ) : EReal) := by
  rw [prefix_sum x w ht e o ho r, hc, ← Nat.cast_add, Nat.add_assoc o, tally_add _ o, Nat.add_comm, Nat.add_assoc]

/-! The four stored quarters. -/

section

variable (ht : IsTriangle tri) {n : ℕ} {e : Fin 16} (hcr : cr (ix2 0 e) = ((n : ℕ) : EReal)) (a : Fin 256)
include ht hcr

theorem mark1_apply : k0_pay15 (k0_pay9 x w) (k0_pay10 (F := Ideal)) tri cr (ix3 0 a e)
    = if Picks x w e a.val ∧ n + tally (Picks x w e) (a.val + 1) ≤ 512 then 1#32 else 0#32 := by
  pointwise [k0_pay15, k0_pay13]
  refine mark_word (picks_val x w ⟨a.val, by omega⟩ e).symm ?_
  rw [prefix_sum_first x w ht e a, hcr, ← Nat.cast_add, Nat.add_comm]

theorem mark2_apply : k0_pay20 (sel x w) (k0_pay17 (k0_pay9 x w) (k0_pay10 (F := Ideal)) tri (carry1 x w tri cr)) (ix3 0 a e)
    = if Picks x w e (256 + a.val) ∧ n + tally (Picks x w e) (256 + a.val + 1) ≤ 512 then 1#32 else 0#32 := by
  pointwise [k0_pay20, k0_pay17, k0_pay16]
  exact mark_word (picks_val x w ⟨256 + a.val, by omega⟩ e).symm
    (priority x w ht 256 (by omega) a (carry1_apply x w cr ht hcr))

theorem mark3_apply : k0_pay23 (sel x w) (selNum x w) tri (carry2 x w tri cr) (ix3 0 a e)
    = if Picks x w e (512 + a.val) ∧ n + tally (Picks x w e) (512 + a.val + 1) ≤ 512 then 1#32 else 0#32 := by
  pointwise [k0_pay23, k0_pay21]
  exact mark_word (picks_val x w ⟨512 + a.val, by omega⟩ e).symm
    (priority x w ht 512 (by omega) a (carry2_apply x w cr ht hcr))

theorem mark4_apply : k0_pay2 (sel x w) (k0_pay25 (selNum x w) tri (carry3 x w tri cr)) (ix3 0 a e)
    = if Picks x w e (768 + a.val) ∧ n + tally (Picks x w e) (768 + a.val + 1) ≤ 512 then 1#32 else 0#32 := by
  pointwise [k0_pay2, k0_pay25, k0_pay24]
  exact mark_word (picks_val x w ⟨768 + a.val, by omega⟩ e).symm
    (priority x w ht 768 (by omega) a (carry3_apply x w cr ht hcr))

end

/-- A quarter's local index from its coordinates. -/
theorem local_idx {y : S1x256x16.Idx} {e : Fin 16} (h : e.val = (y 2).val) : y = ix3 0 (y 1) e := by
  refine funext fun a => ?_
  match a with
  | 0 => exact Fin.ext (by have := (y 0).isLt; change (y 0).val < 1 at this; show (y 0).val = 0; omega)
  | 1 => rfl
  | 2 => exact Fin.ext h.symm

/-- The first result of a block: the selected expert is marked if it is within the capacity, counting the tokens that
    came in and those of the block up to this one. -/
theorem marks_apply (ht : IsTriangle tri) {n : ℕ} {e : Fin 16} (hcr : cr (ix2 0 e) = ((n : ℕ) : EReal)) (r : Fin 1024) :
    marks x w tri cr (ix3 0 r e)
      = if Picks x w e r.val ∧ n + tally (Picks x w e) (r.val + 1) ≤ 512 then 1#32 else 0#32 := by
  unfold marks
  canon_tiles y h
  all_goals rw [local_idx (y := y) (e := e) h2, show r.val = _ from h1]
  exacts [mark4_apply x w cr ht hcr _, mark3_apply x w cr ht hcr _, mark2_apply x w cr ht hcr _,
    mark1_apply x w cr ht hcr _]

end Cert.KernelIdeal.Values

end
-- ==== Proof.Sweep.lean ====
module

public import proofs.«01_k».proof.Proof.Values
public import proofs.«01_k».proof.Proof.Gen.KernelIdeal.Value

/-! What the kernel's three result arrays hold after the run, element by element, by induction over the grid. -/

@[expose] public section

set_option maxRecDepth 16384

noncomputable section

open Idealize.ShloMosaic Idealize.ShloMosaic.TcCoe Idealize.SL.Sem

namespace Cert.Counting

/-- The scores of token `t` of group `g`. -/
def scores (X : FVec Ideal Cert.KernelIdeal.S2x4096x2048 .f32) (W : FVec Ideal Cert.KernelIdeal.S2048x16 .f32)
    (g : Fin 2) (t : Fin 4096) (e : Fin 16) : EReal := ∑ k : Fin 2048, X (ix3 g t k) * W (ix2 k e)

/-- Token `t` of a group (any number, none beyond the group) goes to expert `e`: its first largest score. -/
def Goes (X : FVec Ideal Cert.KernelIdeal.S2x4096x2048 .f32) (W : FVec Ideal Cert.KernelIdeal.S2048x16 .f32)
    (g : Fin 2) (e : Fin 16) (t : ℕ) : Prop := ∃ h : t < 4096, First (scores X W g ⟨t, h⟩) e

end Cert.Counting

namespace Cert.KernelIdeal.Sweep

open Cert.KernelIdeal Cert.KernelIdeal.Gen Cert.KernelIdeal.Cases Cert.KernelIdeal.Values Cert.KernelIdeal.Value
open Cert.Counting

variable (m : (ℓ : Loc nD τ sig) → Buf (Elt Ideal) ℓ) (c : Dev nD)

/-- The tokens. -/
abbrev tokens : FVec Ideal S2x4096x2048 .f32 := m ((c : Thread nD τ).loc main_arg0)
/-- The weights. -/
abbrev weights : FVec Ideal S2048x16 .f32 := m ((c : Thread nD τ).loc main_arg1)

theorem points (t : Fin cfg0.N) : t.val < 8 := lt_of_lt_of_eq t.isLt (show cfg0.N = 8 from N_0)

theorem win0_idx : ∀ t : Fin grid0.N, win0_0.index t = ![t.val / 4, t.val % 4, 0] := by decide +kernel
theorem win1_idx : ∀ t : Fin grid0.N, win0_1.index t = ![0, 0] := by decide +kernel

/-- The group of a grid point. -/
def grp (t : Fin cfg0.N) : Fin 2 := ⟨t.val / 4, by have := points t; omega⟩

/-- Row `r` of a grid point's block is this token of its group. -/
def row (t : Fin cfg0.N) (r : Fin 1024) : Fin 4096 := ⟨1024 * (t.val % 4) + r.val, by omega⟩

/-- A grid point's block of the tokens. -/
theorem block_tokens (t : Fin cfg0.N) (r : Fin 1024) (k : Fin 2048) :
    (iblk m c 0 t : Vec Ideal S1x1024x2048 .f32) (ix3 0 r k) = tokens m c (ix3 (grp t) (row t r) k) := by
  have e0 := win0_idx t
  blk_ext [iblk, V, e0, grp, row]

/-- Every grid point has all the weights. -/
theorem block_weights (t : Fin cfg0.N) (k : Fin 2048) (e : Fin 16) :
    (iblk m c 1 t : Vec Ideal S2048x16 .f32) (ix2 k e) = weights m c (ix2 k e) := by
  have e1 := win1_idx t
  blk_ext [iblk, V, e1]

/-- So the block's scores are the scores of its tokens, -/
theorem block_score (t : Fin cfg0.N) (r : Fin 1024) :
    score (iblk m c 0 t) (iblk m c 1 t) r = scores (tokens m c) (weights m c) (grp t) (row t r) := by
  funext e
  exact Finset.sum_congr rfl fun k _ => by rw [block_tokens, block_weights]

/-- and its selection theirs. -/
theorem block_picks (t : Fin cfg0.N) (e : Fin 16) (r : ℕ) (hr : r < 1024) :
    Picks (iblk m c 0 t) (iblk m c 1 t) e r
      ↔ Goes (tokens m c) (weights m c) (grp t) e (1024 * (t.val % 4) + r) := by
  rw [show r = (⟨r, hr⟩ : Fin 1024).val from rfl, picks_val, sel_apply, block_score]
  exact ⟨fun h => ⟨by omega, h⟩, fun ⟨_, h⟩ => h⟩

/-- How many tokens of a grid point's group before its block went to expert `e`. -/
def before (t : Fin cfg0.N) (e : Fin 16) : ℕ :=
  tally (Goes (tokens m c) (weights m c) (grp t) e) (1024 * (t.val % 4))

theorem before_add (t : Fin cfg0.N) (e : Fin 16) (k : ℕ) (hk : k ≤ 1024) :
    before m c t e + tally (Picks (iblk m c 0 t) (iblk m c 1 t) e) k
      = tally (Goes (tokens m c) (weights m c) (grp t) e) (1024 * (t.val % 4) + k) := by
  rw [before, tally_add]
  exact congrArg _ (tally_congr fun r hr => block_picks m c t e r (by omega))

/-- The contents named at a grid point. -/
abbrev State : Type := Vec Ideal S1x1024x16 .i32 × Vec Ideal S1x1024x1 .f32 × Vec Ideal S1x1024x16 .f32
  × Vec Ideal S1x16 .f32 × Vec Ideal S256x256 .bf16

/-- What a grid point leaves, from the triangle and a carry that counts the tokens before its block. -/
def Good (t : Fin cfg0.N) (s : State) : Prop :=
  ∃ (tri : Vec Ideal S256x256 .bf16) (cr : Vec Ideal S1x16 .f32), IsTriangle tri
    ∧ (∀ e, cr (ix2 0 e) = ((before m c t e : ℕ) : EReal))
    ∧ s = (marks (iblk m c 0 t) (iblk m c 1 t) tri cr, k0_pay8 (iblk m c 0 t) (iblk m c 1 t),
        k0_pay6 (iblk m c 0 t) (iblk m c 1 t), carry4 (iblk m c 0 t) (iblk m c 1 t) tri cr, tri)

/-- No token comes before a group's first block. -/
theorem before_first (t : Fin cfg0.N) (h : t.val % 4 = 0) (e : Fin 16) : before m c t e = 0 := by
  rw [before, h, Nat.mul_zero, tally_zero]

theorem good_A (t : Fin cfg0.N) (acc : State) (h0 : t.val % 8 = 0) (h1 : t.val % 4 = 0) :
    Good m c t (stAt0 m c t.val t.isLt acc) := by
  refine ⟨k0_pay3 (F := Ideal), k0_pay4 (F := Ideal), pay3_triangle, fun e => ?_, ?_⟩
  · rw [pay4_apply, before_first m c t h1, Nat.cast_zero]
  · rw [stAt0_A m c t acc h0 h1, out0_A_2_eq, out0_A_3_eq, out0_A_4_eq, sout0_A_0_eq, sout0_A_1_eq]

theorem good_C (t : Fin cfg0.N) (acc : State) (h0 : ¬ t.val % 8 = 0) (h1 : t.val % 4 = 0)
    (ht : IsTriangle acc.2.2.2.2) : Good m c t (stAt0 m c t.val t.isLt acc) := by
  refine ⟨acc.2.2.2.2, k0_pay4 (F := Ideal), ht, fun e => ?_, ?_⟩
  · rw [pay4_apply, before_first m c t h1, Nat.cast_zero]
  · rw [stAt0_C m c t acc h0 h1, out0_C_2_eq, out0_C_3_eq, out0_C_4_eq, sout0_C_0_eq, sout0_C_1_eq]

theorem good_B (t : Fin cfg0.N) (acc : State) (h0 : ¬ t.val % 8 = 0) (h1 : ¬ t.val % 4 = 0)
    (ht : IsTriangle acc.2.2.2.2) (hc : ∀ e, acc.2.2.2.1 (ix2 0 e) = ((before m c t e : ℕ) : EReal)) :
    Good m c t (stAt0 m c t.val t.isLt acc) := by
  refine ⟨acc.2.2.2.2, acc.2.2.2.1, ht, hc, ?_⟩
  rw [stAt0_B m c t acc h0 h1, out0_B_2_eq, out0_B_3_eq, out0_B_4_eq, sout0_B_0_eq, sout0_B_1_eq]

/-- After every grid point the contents are as described. -/
theorem good : ∀ (n : ℕ) (hn : n < cfg0.N), Good m c ⟨n, hn⟩ (outsAt0 m c n hn)
  | 0, hn => by
    rw [outsAt0_zero]
    exact good_A m c ⟨0, hn⟩ junk0 rfl rfl
  | n + 1, hn => by
    have hN := points ⟨n + 1, hn⟩
    dsimp only at hN
    obtain ⟨tri, cr, ht, hc, hs⟩ := good n (Nat.lt_of_succ_lt hn)
    rw [outsAt0_succ, hs]
    by_cases h1 : (n + 1) % 4 = 0
    · exact good_C m c ⟨n + 1, hn⟩ _ (by dsimp only; omega) h1 ht
    · refine good_B m c ⟨n + 1, hn⟩ _ (by dsimp only; omega) h1 ht fun e => ?_
      dsimp only
      rw [carry4_apply _ _ _ ht (hc e), before_add m c ⟨n, _⟩ e 1024 le_rfl, before]
      have hg : grp (⟨n, Nat.lt_of_succ_lt hn⟩ : Fin cfg0.N) = grp ⟨n + 1, hn⟩ :=
        Fin.ext (by show n / 4 = (n + 1) / 4; omega)
      rw [hg]
      congr 2
      show 1024 * (n % 4) + 1024 = 1024 * ((n + 1) % 4)
      omega

/-- The grid point whose block holds token `t` of group `g`. -/
def pointOf (g : Fin 2) (t : Fin 4096) : Fin cfg0.N :=
  ⟨4 * g.val + t.val / 1024, by rw [show cfg0.N = 8 from N_0]; omega⟩

theorem grp_pointOf (g : Fin 2) (t : Fin 4096) : grp (pointOf g t) = g :=
  Fin.ext (by show (4 * g.val + t.val / 1024) / 4 = g.val; omega)

theorem row_pointOf (g : Fin 2) (t : Fin 4096) :
    row (pointOf g t) ⟨t.val % 1024, by omega⟩ = t :=
  Fin.ext (by show 1024 * ((4 * g.val + t.val / 1024) % 4) + t.val % 1024 = t.val; omega)

/-- The contents at the point of a token, with the point's own description. -/
theorem good_at (g : Fin 2) (t : Fin 4096) (p : ℕ) (hp : p = 4 * g.val + t.val / 1024) (hn : 0 + p < cfg0.N) :
    Good m c (pointOf g t) (Pipeline.accAt (fun n h => stAt0 m c n h junk0) (stAt0 m c) 0 p hn) := by
  subst hp
  rw [← outsAt0_sweep m c (4 * g.val + t.val / 1024) (pointOf g t).isLt]
  exact good m c _ _

/-- The first result: an expert is marked for a token if the token goes to it and at most 512 tokens of the group up to
    this one do. -/
theorem first_result (g : Fin 2) (t : Fin 4096) (e : Fin 16) [Decidable (Goes (tokens m c) (weights m c) g e t.val ∧
      tally (Goes (tokens m c) (weights m c) g e) (t.val + 1) ≤ 512)] :
    (G2 m c : Vec Ideal S2x4096x16 .i32) (ix3 g t e)
      = if Goes (tokens m c) (weights m c) g e t.val ∧
          tally (Goes (tokens m c) (weights m c) g e) (t.val + 1) ≤ 512 then 1#32 else 0#32 := by
  have hp : pt2Of (ix3 g t e) = 4 * g.val + t.val / 1024 := by
    show 4 * (g.val / 1 - 0) + 1 * (t.val / 1024 - 0) + 1 * (e.val / 16 - 0) = _
    omega
  have hl : loc2Of (ix3 g t e) = ix3 0 ⟨t.val % 1024, by omega⟩ e := by
    funext a
    match a with
    | 0 => exact Fin.ext (by show g.val % 1 = 0; omega)
    | 1 => rfl
    | 2 => exact Fin.ext (by show e.val % 16 = e.val; omega)
  have hN : pt2Of (ix3 g t e) < cfg0.N := by rw [hp]; exact (pointOf g t).isLt
  obtain ⟨tri, cr, ht, hc, hs⟩ := good_at m c g t _ hp (by omega)
  unfold G2
  rw [dif_pos hN, hs, hl]
  dsimp only
  rw [marks_apply _ _ _ ht (hc e)]
  refine if_congr ?_ rfl rfl
  have hr : (row (pointOf g t) ⟨t.val % 1024, by omega⟩).val = t.val := congrArg Fin.val (row_pointOf g t)
  dsimp only [row] at hr
  dsimp only
  rw [block_picks m c _ e _ (by omega), before_add m c _ e _ (by omega), ← Nat.add_assoc, hr, grp_pointOf]

/-- The second result: one over the sum of the exponentials of a token's scores below their maximum. -/
theorem second_result (g : Fin 2) (t : Fin 4096) :
    (G3 m c : Vec Ideal S2x4096x1 .f32) (ix3 g t 0)
      = Ideal.div 1 (∑ e : Fin 16, Ideal.exp (scores (tokens m c) (weights m c) g t e
          - Finset.fold max ⊥ (scores (tokens m c) (weights m c) g t) Finset.univ)) := by
  have hp : pt3Of (ix3 g t 0) = 4 * g.val + t.val / 1024 := by
    show 4 * (g.val / 1 - 0) + 1 * (t.val / 1024 - 0) + 1 * (0 / 1 - 0) = _
    omega
  have hl : loc3Of (ix3 g t 0) = ix3 0 ⟨t.val % 1024, by omega⟩ 0 := by
    funext a
    match a with
    | 0 => exact Fin.ext (by show g.val % 1 = 0; omega)
    | 1 => rfl
    | 2 => rfl
  have hN : pt3Of (ix3 g t 0) < cfg0.N := by rw [hp]; exact (pointOf g t).isLt
  obtain ⟨tri, cr, ht, hc, hs⟩ := good_at m c g t _ hp (by omega)
  unfold G3
  rw [dif_pos hN, hs, hl]
  dsimp only
  rw [pay8_apply, block_score, grp_pointOf, row_pointOf]

/-- The third result: the scores. -/
theorem third_result (g : Fin 2) (t : Fin 4096) (e : Fin 16) :
    (G4 m c : Vec Ideal S2x4096x16 .f32) (ix3 g t e) = scores (tokens m c) (weights m c) g t e := by
  have hp : pt4Of (ix3 g t e) = 4 * g.val + t.val / 1024 := by
    show 4 * (g.val / 1 - 0) + 1 * (t.val / 1024 - 0) + 1 * (e.val / 16 - 0) = _
    omega
  have hl : loc4Of (ix3 g t e) = ix3 0 ⟨t.val % 1024, by omega⟩ e := by
    funext a
    match a with
    | 0 => exact Fin.ext (by show g.val % 1 = 0; omega)
    | 1 => rfl
    | 2 => exact Fin.ext (by show e.val % 16 = e.val; omega)
  have hN : pt4Of (ix3 g t e) < cfg0.N := by rw [hp]; exact (pointOf g t).isLt
  obtain ⟨tri, cr, ht, hc, hs⟩ := good_at m c g t _ hp (by omega)
  unfold G4
  rw [dif_pos hN, hs, hl]
  dsimp only
  rw [pay6_apply, block_score, grp_pointOf, row_pointOf]

end Cert.KernelIdeal.Sweep

end
-- ==== Proof.Softmax.lean ====
module

public import proofs.«01_k».proof.Proof.Counting

/-! The softmax of one row of real scores: where it is greatest, and how great it is there. -/

@[expose] public section

noncomputable section

open Idealize.ShloMosaic Idealize.ShloMosaic.TcCoe

namespace Cert.Counting

variable {n : ℕ} [NeZero n]

/-- A sum of reals, read in the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The greatest entry of a row is one of its entries. -/
theorem fold_max_attained (L : Fin n → EReal) : ∃ k, L k = Finset.fold max ⊥ L Finset.univ := by
  obtain ⟨k, -, hk⟩ := Finset.exists_max_image (Finset.univ : Finset (Fin n)) L ⟨0, Finset.mem_univ _⟩
  exact ⟨k, (eq_fold_max L k).2 fun j => hk j (Finset.mem_univ _)⟩

/-- A row has one first greatest entry. -/
theorem First.unique {L : Fin n → EReal} {a b : Fin n} (ha : First L a) (hb : First L b) : a = b := by
  rcases lt_trichotomy a b with h | h | h
  · exact absurd (le_antisymm (hb.1 a) (ha.1 b)) (hb.2 a h)
  · exact h
  · exact absurd (le_antisymm (ha.1 b) (hb.1 a)) (ha.2 b h)

/-- A strictly increasing function of the entries has its first greatest entry where the entries have. -/
theorem first_map {L Q : Fin n → EReal} (h : ∀ a b, Q a ≤ Q b ↔ L a ≤ L b) (e : Fin n) : First Q e ↔ First L e := by
  have he : ∀ a b, Q a = Q b ↔ L a = L b := fun a b => by
    rw [le_antisymm_iff, le_antisymm_iff, h, h]
  unfold First
  simp only [h, ne_eq, he]

/-- The sum of a row of exponentials, each of an entry less `μ`. -/
def expSum (L : Fin n → EReal) (μ : EReal) : EReal := ∑ k, Ideal.exp (L k - μ)

/-- The softmax of a row. -/
def soft (L : Fin n → EReal) (k : Fin n) : EReal :=
  Ideal.div (Ideal.exp (L k - Finset.fold max ⊥ L Finset.univ)) (expSum L (Finset.fold max ⊥ L Finset.univ))

section

variable {L : Fin n → EReal} {l : Fin n → ℝ} (hL : ∀ k, L k = (l k : EReal))
include hL

/-- For real scores the softmax is a positive multiple of the exponential, and the multiple is one over the sum. -/
theorem soft_real : ∃ (μ s : ℝ), 0 < s ∧ Finset.fold max ⊥ L Finset.univ = (μ : EReal) ∧
    expSum L (Finset.fold max ⊥ L Finset.univ) = (s : EReal) ∧ ∀ k, soft L k = ((Real.exp (l k - μ) * (1 / s) : ℝ) : EReal) := by
  obtain ⟨a, ha⟩ := fold_max_attained L
  have hs : expSum L (l a : EReal) = ((∑ k, Real.exp (l k - l a) : ℝ) : EReal) := by
    rw [expSum, coe_sum]
    exact Finset.sum_congr rfl fun k _ => by rw [hL, ← EReal.coe_sub, Ideal.exp_coe]
  have hpos : 0 < ∑ k, Real.exp (l k - l a) :=
    Finset.sum_pos (fun k _ => Real.exp_pos _) ⟨0, Finset.mem_univ _⟩
  refine ⟨l a, ∑ k, Real.exp (l k - l a), hpos, by rw [← ha, hL], by rw [← ha, hL, hs], fun k => ?_⟩
  rw [soft, ← ha, hL a, hs, Ideal.div_coe hpos.ne', hL, ← EReal.coe_sub, Ideal.exp_coe, ← EReal.coe_mul]

/-- The softmax of real scores orders the columns as the scores do. -/
theorem soft_le (a b : Fin n) : soft L a ≤ soft L b ↔ L a ≤ L b := by
  obtain ⟨μ, s, hs, -, -, h⟩ := soft_real hL
  rw [h, h, EReal.coe_le_coe_iff, hL, hL, EReal.coe_le_coe_iff, mul_le_mul_iff_left₀ (by positivity), Real.exp_le_exp]
  exact ⟨fun h => by linarith, fun h => by linarith⟩

/-- Each softmax value of real scores is above the least extended real. -/
theorem soft_bot (a : Fin n) : ⊥ < soft L a := by
  obtain ⟨μ, s, hs, -, -, h⟩ := soft_real hL
  rw [h]
  exact EReal.bot_lt_coe _

/-- The greatest softmax value of real scores is one over the sum of the exponentials. -/
theorem soft_max : Finset.fold max ⊥ (soft L) Finset.univ
    = Ideal.div 1 (expSum L (Finset.fold max ⊥ L Finset.univ)) := by
  obtain ⟨a, ha⟩ := fold_max_attained L
  have hbest : ∀ k, soft L k ≤ soft L a := fun k => (soft_le hL k a).2 ((eq_fold_max L a).1 ha k)
  rw [← (eq_fold_max (soft L) a).2 hbest, soft, ← ha, hL a, ← EReal.coe_sub, sub_self, Ideal.exp_coe, Real.exp_zero,
    EReal.coe_one]

end

/-- `p` beats `q`: the greater value, or the smaller place of equal values. -/
def Beats (p q : EReal × BitVec 32) : Prop := q.1 < p.1 ∨ (q.1 = p.1 ∧ p.2.toInt ≤ q.2.toInt)

theorem Beats.refl (p : EReal × BitVec 32) : Beats p p := Or.inr ⟨rfl, le_rfl⟩

theorem Beats.trans {p q r : EReal × BitVec 32} (h : Beats p q) (h' : Beats q r) : Beats p r := by
  rcases h with h | ⟨h, h1⟩ <;> rcases h' with h' | ⟨h', h1'⟩
  · exact Or.inl (h'.trans h)
  · exact Or.inl (h' ▸ h)
  · exact Or.inl (h ▸ h')
  · exact Or.inr ⟨h'.trans h, h1.trans h1'⟩

/-- A fold that keeps of two pairs one that beats both ends at a pair of the list (or the first one) that beats all. -/
theorem fold_beats (f : EReal × BitVec 32 → EReal × BitVec 32 → EReal × BitVec 32)
    (hf : ∀ a b, (f a b = a ∨ f a b = b) ∧ Beats (f a b) a ∧ Beats (f a b) b) :
    ∀ (l : List (EReal × BitVec 32)) (p : EReal × BitVec 32),
      (l.foldl f p = p ∨ l.foldl f p ∈ l) ∧ Beats (l.foldl f p) p ∧ ∀ q ∈ l, Beats (l.foldl f p) q
  | [], p => ⟨Or.inl rfl, Beats.refl p, fun _ h => absurd h List.not_mem_nil⟩
  | b :: l, p => by
    obtain ⟨h1, h2, h3⟩ := fold_beats f hf l (f p b)
    obtain ⟨k1, k2, k3⟩ := hf p b
    rw [List.foldl_cons]
    refine ⟨?_, h2.trans k2, fun q hq => ?_⟩
    · rcases h1 with h1 | h1
      · rcases k1 with k1 | k1
        · exact Or.inl (h1.trans k1)
        · exact Or.inr (List.mem_cons.2 (Or.inl (h1.trans k1)))
      · exact Or.inr (List.mem_cons.2 (Or.inr h1))
    · rcases List.mem_cons.1 hq with rfl | hq
      · exact h2.trans k3
      · exact h3 q hq

/-- Folded from below everything over the pairs of a row's entries with their columns, it ends at the first greatest
    entry's column. -/
theorem fold_first (hn : n ≤ 2 ^ 31) (f : EReal × BitVec 32 → EReal × BitVec 32 → EReal × BitVec 32)
    (hf : ∀ a b, (f a b = a ∨ f a b = b) ∧ Beats (f a b) a ∧ Beats (f a b) b) (Q : Fin n → EReal) (hQ : ∀ k, ⊥ < Q k)
    (l : List (EReal × BitVec 32)) (hl : ∀ p, p ∈ l ↔ ∃ k : Fin n, p = (Q k, BitVec.ofNat 32 k.val)) (z : BitVec 32) :
    ∃ e : Fin n, First Q e ∧ (l.foldl f (⊥, z)).2 = BitVec.ofNat 32 e.val := by
  obtain ⟨h1, -, h3⟩ := fold_beats f hf l (⊥, z)
  have h0 := h3 _ ((hl _).2 ⟨0, rfl⟩)
  have hmem : l.foldl f (⊥, z) ∈ l := h1.resolve_left fun h => by
    rw [h] at h0
    rcases h0 with h0 | ⟨h0, -⟩
    · exact absurd h0 (not_lt.2 bot_le)
    · exact absurd h0 (hQ 0).ne'
  obtain ⟨e, he⟩ := (hl _).1 hmem
  refine ⟨e, ⟨fun k => ?_, fun k hk hke => ?_⟩, by rw [he]⟩
  · have hb := h3 _ ((hl _).2 ⟨k, rfl⟩)
    rw [he] at hb
    rcases hb with hb | ⟨hb, -⟩
    · exact hb.le
    · exact hb.le
  · have hb := h3 _ ((hl _).2 ⟨k, rfl⟩)
    rw [he] at hb
    rcases hb with hb | ⟨-, hb⟩
    · exact absurd hke hb.ne
    · dsimp only at hb
      rw [toInt_small (by omega), toInt_small (by omega)] at hb
      have : e.val ≤ k.val := by exact_mod_cast hb
      exact absurd hk (not_lt.2 this)

/-- A running sum of flags over a window that reaches `lo` places back, in 32-bit words: the count of the flags up to
    the place, counting as the window's `N` entries are taken one by one. -/
theorem fold_window (S : ℕ → Prop) [DecidablePred S] (lo j : ℕ) : ∀ (N : ℕ) (G : Fin N → BitVec 32),
    (∀ k, G k = if lo ≤ j + k.val ∧ S (j + k.val - lo) then 1#32 else 0#32) → j ≤ lo →
      (List.finRange N).foldl (fun r k => IntOp.addi r (G k)) 0#32 = BitVec.ofNat 32 (tally S (j + N - lo))
  | 0, _, _, hj => by rw [show j + 0 - lo = 0 by omega, tally_zero]; rfl
  | N + 1, G, hG, hj => by
    rw [List.finRange_succ_last, List.foldl_append, List.foldl_map,
      fold_window S lo j N (fun k => G k.castSucc) (fun k => hG k.castSucc) hj, List.foldl_cons, List.foldl_nil,
      hG (Fin.last N)]
    show BitVec.ofNat 32 _ + _ = _
    rw [Fin.val_last]
    by_cases h : lo ≤ j + N
    · rw [show j + (N + 1) - lo = j + N - lo + 1 by omega, tally_succ, BitVec.ofNat_add]
      by_cases hS : S (j + N - lo) <;> simp [h, hS]
    · rw [show j + (N + 1) - lo = j + N - lo by omega]
      simp [h]

end Cert.Counting

end
-- ==== Proof.RefValues.lean ====
module

public import proofs.«01_k».proof.Proof.Softmax
public import proofs.«01_k».proof.Proof.RefRun

/-! The reference's three results, element by element. -/

@[expose] public section

set_option maxRecDepth 16384

noncomputable section

open Idealize.ShloMosaic Idealize.ShloMosaic.TcCoe Idealize.SL.Sem

namespace Cert.ReferenceIdeal.Values

open Cert.ReferenceIdeal Cert.ReferenceIdeal.Gen Cert.ReferenceIdeal.Value Cert.Counting

variable (L : FVec Ideal S2x4096x16 .f32) (g : Fin 2) (t : Fin 4096)

/-- Token `t`'s row of an array. -/
abbrev rowOf (k : Fin 16) : EReal := L (ix3 g t k)

theorem neg_inf : Ideal.ofBits FTy.f32 4286578688#32 = (⊥ : EReal) := by
  simp [Ideal.ofBits, Ideal.ieee]

/-- The logits. -/
theorem logits_apply (x : FVec Ideal S2x4096x2048 .f32) (w : FVec Ideal S2048x16 .f32) (e : Fin 16) :
    logits x w (ix3 g t e) = ∑ k : Fin 2048, x (ix3 g t k) * w (ix2 k e) := by
  pointwise [logits]

/-- The probabilities are the softmax of the row. -/
theorem probs_apply (e : Fin 16) : probs L (ix3 g t e) = soft (rowOf L g t) e := by
  pointwise [probs]
  simp only [neg_inf, bot_le, sup_of_le_right, soft, expSum]

/-- The greatest probability. -/
theorem best_apply (Q : FVec Ideal S2x4096x16 .f32) :
    best Q (ix3 g t 0) = Finset.fold max ⊥ (rowOf Q g t) Finset.univ := by
  pointwise [best]
  rw [neg_inf]

/-- The reducer keeps one of its two pairs, one that beats both. -/
theorem reducer_beats (a b : EReal × BitVec 32) :
    (reducer_argmax_f32_i32 (F := Ideal) a b = a ∨ reducer_argmax_f32_i32 (F := Ideal) a b = b)
      ∧ Beats (reducer_argmax_f32_i32 (F := Ideal) a b) a ∧ Beats (reducer_argmax_f32_i32 (F := Ideal) a b) b := by
  obtain ⟨a1, a2⟩ := a
  obtain ⟨b1, b2⟩ := b
  have hs : BitVec.slt a2 b2 = decide (a2.toInt < b2.toInt) := rfl
  have hgt : FloatOps.cmpf (F := Ideal) (φ := .f32) .ogt a1 b1 = BitVec.ofBool (decide (b1 < a1)) := rfl
  have heq : FloatOps.cmpf (F := Ideal) (φ := .f32) .oeq a1 b1 = BitVec.ofBool (decide (a1 = b1)) := rfl
  have hne : FloatOps.cmpf (F := Ideal) (φ := .f32) .une a1 a1 = 0#1 := by simp [Ideal.cmpf_def, Ideal.cmp]
  have hlt : IntOp.cmpi .slt a2 b2 = BitVec.ofBool (decide (a2.toInt < b2.toInt)) := rfl
  unfold reducer_argmax_f32_i32
  dsimp only
  rw [hgt, heq, hne, hlt]
  rcases lt_trichotomy a1 b1 with h | h | h
  · simp [Beats, Scalar.select, IntOp.ori, IntOp.andi, h, h.ne, not_lt.2 h.le]
  · subst h
    by_cases h2 : a2.toInt < b2.toInt
    · simp [Beats, Scalar.select, IntOp.ori, IntOp.andi, h2, h2.le]
    · simp [Beats, Scalar.select, IntOp.ori, IntOp.andi, h2, not_lt.1 h2]
  · simp [Beats, Scalar.select, IntOp.ori, IntOp.andi, h, h.ne', not_lt.2 h.le]

/-- The chosen expert is the first column of the row's greatest entry. -/
theorem choice_apply (Q : FVec Ideal S2x4096x16 .f32) (hQ : ∀ k, ⊥ < rowOf Q g t k) :
    ∃ e : Fin 16, First (rowOf Q g t) e ∧ choice Q (ix2 g t) = BitVec.ofNat 32 e.val := by
  unfold choice
  rw [Ideal.argReduce_eq_reduce2, Host.reduce2_eq_foldl_fiber]
  refine fold_first (by norm_num) _ reducer_beats (rowOf Q g t) hQ _ (fun p => ?_) _
  unfold Host.argReduceFiber
  simp only [List.mem_map, List.mem_filter, List.mem_finRange, true_and, decide_eq_true_eq]
  constructor
  · rintro ⟨n, hn, rfl⟩
    obtain ⟨k, hk⟩ := (reducesTo_S2x4096x16_S2x4096_d2.fiber_r3_a2 (ix2 g t) _).1 hn
    exact ⟨k, by rw [← hk]; rfl⟩
  · rintro ⟨k, rfl⟩
    refine ⟨S2x4096x16.rowMajor (ix3 g t k), ?_, ?_⟩
    · rw [Equiv.symm_apply_apply]
      exact (reducesTo_S2x4096x16_S2x4096_d2.fiber_r3_a2 (ix2 g t) _).2 ⟨k, rfl⟩
    · rw [Equiv.symm_apply_apply]; rfl

/-- The choice as a row of flags. -/
theorem oneHot_apply (ch : IVec S2x4096 32) (a e : Fin 16) (h : ch (ix2 g t) = BitVec.ofNat 32 a.val) :
    oneHot ch (ix3 g t e) = if a = e then 1#32 else 0#32 := by
  pointwise [oneHot]
  rw [h, flag_word]
  refine if_congr ?_ rfl rfl
  clear h
  revert a e; decide +kernel

/-- The running sum of flags along the tokens is their count. -/
theorem place_apply (o : IVec S2x4096x16 32) (e : Fin 16) (S : ℕ → Prop) [DecidablePred S]
    (ho : ∀ t' : Fin 4096, o (ix3 g t' e) = if S t'.val then 1#32 else 0#32) :
    place o (ix3 g t e) = BitVec.ofNat 32 (tally S (t.val + 1)) := by
  have hW : ∀ n : Fin (⟨3, ![1, 4096, 1]⟩ : Shape).numel,
      ((⟨3, ![1, 4096, 1]⟩ : Shape).rowMajor.symm n 0).val = 0
        ∧ ((⟨3, ![1, 4096, 1]⟩ : Shape).rowMajor.symm n 1).val = n.val
        ∧ ((⟨3, ![1, 4096, 1]⟩ : Shape).rowMajor.symm n 2).val = 0 := by
    intro n
    have h := Shape.rowMajor_val_three ((⟨3, ![1, 4096, 1]⟩ : Shape).rowMajor.symm n)
    rw [Equiv.apply_symm_apply] at h
    have h0 : ((⟨3, ![1, 4096, 1]⟩ : Shape).rowMajor.symm n 0).val < 1 := Fin.isLt _
    have h2 : ((⟨3, ![1, 4096, 1]⟩ : Shape).rowMajor.symm n 2).val < 1 := Fin.isLt _
    have h' : n.val = (((⟨3, ![1, 4096, 1]⟩ : Shape).rowMajor.symm n 0).val * 4096
      + ((⟨3, ![1, 4096, 1]⟩ : Shape).rowMajor.symm n 1).val) * 1
      + ((⟨3, ![1, 4096, 1]⟩ : Shape).rowMajor.symm n 2).val := h
    omega
  have hN : (⟨3, ![1, 4096, 1]⟩ : Shape).numel = 4096 := by decide
  have ht := t.isLt
  unfold place Host.reduceWindow
  refine (fold_window S 4095 t.val _ _ (fun n => ?_) (by omega)).trans ?_
  · obtain ⟨h0, h1, h2⟩ := hW n
    have hn : n.val < 4096 := lt_of_lt_of_eq n.isLt hN
    split
    · next hin =>
      have hb := (hin 1).1
      change 4095 ≤ t.val * 1 + ((⟨3, ![1, 4096, 1]⟩ : Shape).rowMajor.symm n 1).val at hb
      rw [h1] at hb
      refine Eq.trans (congrArg o (funext fun a => Fin.ext ?_)) ((ho ⟨t.val + n.val - 4095, by omega⟩).trans ?_)
      · match a with
        | 0 =>
          show g.val * 1 + ((⟨3, ![1, 4096, 1]⟩ : Shape).rowMajor.symm n 0).val - 0 = g.val
          rw [h0]; omega
        | 1 =>
          show t.val * 1 + ((⟨3, ![1, 4096, 1]⟩ : Shape).rowMajor.symm n 1).val - 4095 = t.val + n.val - 4095
          rw [h1]; omega
        | 2 =>
          show e.val * 1 + ((⟨3, ![1, 4096, 1]⟩ : Shape).rowMajor.symm n 2).val - 0 = e.val
          rw [h2]; omega
      · exact if_congr ⟨fun h => ⟨by omega, h⟩, fun h => h.2⟩ rfl rfl
    · next hin =>
      rw [if_neg]
      · rfl
      · rintro ⟨hle, -⟩
        refine hin fun a => ?_
        match a with
        | 0 =>
          show 0 ≤ g.val * 1 + ((⟨3, ![1, 4096, 1]⟩ : Shape).rowMajor.symm n 0).val
            ∧ g.val * 1 + ((⟨3, ![1, 4096, 1]⟩ : Shape).rowMajor.symm n 0).val - 0 < 2
          rw [h0]; omega
        | 1 =>
          show 4095 ≤ t.val * 1 + ((⟨3, ![1, 4096, 1]⟩ : Shape).rowMajor.symm n 1).val
            ∧ t.val * 1 + ((⟨3, ![1, 4096, 1]⟩ : Shape).rowMajor.symm n 1).val - 4095 < 4096
          rw [h1]; omega
        | 2 =>
          show 0 ≤ e.val * 1 + ((⟨3, ![1, 4096, 1]⟩ : Shape).rowMajor.symm n 2).val
            ∧ e.val * 1 + ((⟨3, ![1, 4096, 1]⟩ : Shape).rowMajor.symm n 2).val - 0 < 16
          rw [h2]; omega
  · rw [show t.val + (⟨3, ![1, 4096, 1]⟩ : Shape).numel - 4095 = t.val + 1 by rw [hN]; omega]

/-- The kept choices: the flag, if the count up to the token is within the capacity. -/
theorem kept_apply (o : IVec S2x4096x16 32) (e : Fin 16) (S : ℕ → Prop) [DecidablePred S]
    (ho : ∀ t' : Fin 4096, o (ix3 g t' e) = if S t'.val then 1#32 else 0#32) :
    kept o (ix3 g t e) = if S t.val ∧ tally S (t.val + 1) ≤ 512 then 1#32 else 0#32 := by
  pointwise [kept]
  rw [place_apply g t o e S ho, ho]
  have hle := tally_le S (t.val + 1)
  have ht := t.isLt
  have hc : IntOp.cmpi .sle (BitVec.ofNat 32 (tally S (t.val + 1))) 512#32 = 1#1 ↔ tally S (t.val + 1) ≤ 512 := by
    show BitVec.ofBool (BitVec.sle _ _) = 1#1 ↔ _
    rw [ofBool_true, BitVec.sle_iff_toInt_le, toInt_small (by omega), show (512#32).toInt = 512 from rfl]
    omega
  rw [flag_word]
  simp only [hc]
  by_cases h1 : S t.val <;> by_cases h2 : tally S (t.val + 1) ≤ 512 <;> simp [h1, h2, IntOp.muli]

end Cert.ReferenceIdeal.Values

end
-- ==== Proof.Finite.lean ====
module

public import proofs.«01_k».proof.Proof.Softmax
public import proofs.«01_k».proof.Proof.Gen.Pre_finite

/-! What the precondition says: every entry of both arguments is a real number. -/

@[expose] public section

noncomputable section

open Idealize.ShloMosaic Idealize.ShloMosaic.TcCoe

namespace Cert.Pre_finite.Values

open Cert.Pre_finite Cert.Pre_finite.Gen Cert.Counting

/-- A conjunction over a whole array is set only if every flag is. -/
theorem reduce_and {s t u : Shape} {axes : List (Fin s.rank)} (x : IVec s 1) (init : IVec u 1) (h : s.ReducesTo axes t)
    (hu : 0 < u.numel) (j : t.Idx) (hj : Host.reduce IntOp.andi x init h hu j = 1#1) (i : s.Idx) (hi : h.drop i = j) :
    x i = 1#1 := by
  rw [Host.reduce_eq_fold] at hj
  exact ((Finset.fold_op_rel_iff_and (r := fun _ b => b = 1#1) (c := 1#1)
    (fun {_ y z} => andi_eq_one y z)).1 hj).2 i (by simpa using hi)

theorem inf : Ideal.ofBits FTy.f32 0x7F800000#32 = (⊤ : EReal) := by
  simp [Ideal.ofBits, Ideal.ieee]

/-- A value whose magnitude is below infinity is a real number. -/
theorem real_of_abs {a : EReal} (h : BitVec.ofBool (decide (max a (-a) < Ideal.ofBits FTy.f32 0x7F800000#32)) = 1#1) :
    ∃ r : ℝ, a = (r : EReal) := by
  rw [ofBool_eq_one, inf] at h
  induction a using EReal.rec with
  | bot => simp at h
  | top => simp at h
  | coe r => exact ⟨r, rfl⟩

theorem idx_eq (i j : S_.Idx) : i = j := funext fun a => a.elim0

/-- Under the precondition both arguments hold real numbers alone. -/
theorem reals (x : FVec Ideal S2x4096x2048 .f32) (w : FVec Ideal S2048x16 .f32)
    (h : fn (F := Ideal) x w = fun _ => 1#1) :
    (∀ i, ∃ r : ℝ, x i = (r : EReal)) ∧ ∀ i, ∃ r : ℝ, w i = (r : EReal) := by
  have h0 : fn (F := Ideal) x w (Shape.Idx.first h_S_) = 1#1 := by rw [h]
  obtain ⟨hx, hw⟩ := (andi_eq_one _ _).1 h0
  exact ⟨fun i => real_of_abs (reduce_and _ _ _ _ _ hx i (idx_eq _ _)),
    fun i => real_of_abs (reduce_and _ _ _ _ _ hw i (idx_eq _ _))⟩

/-- So every sum of products of their entries is a real number. -/
theorem dot_real {n : ℕ} (f g : Fin n → EReal) (hf : ∀ k, ∃ r : ℝ, f k = (r : EReal))
    (hg : ∀ k, ∃ r : ℝ, g k = (r : EReal)) : ∃ r : ℝ, ∑ k, f k * g k = (r : EReal) := by
  choose a ha using hf
  choose b hb using hg
  refine ⟨∑ k, a k * b k, ?_⟩
  rw [coe_sum]
  exact Finset.sum_congr rfl fun k _ => by rw [ha, hb, EReal.coe_mul]

end Cert.Pre_finite.Values

end
-- ==== Proof.Equation.lean ====
module

public import proofs.«01_k».proof.Proof.Sweep
public import proofs.«01_k».proof.Proof.RefValues
public import proofs.«01_k».proof.Proof.Finite

/-! The equation: on real arguments the kernel's three result arrays are the reference's. -/

@[expose] public section

set_option maxRecDepth 16384

noncomputable section

open Idealize.ShloMosaic Idealize.ShloMosaic.TcCoe Idealize.SL.Sem

namespace Cert.Equation

open Cert.KernelIdeal Cert.KernelIdeal.Value Cert.KernelIdeal.Sweep Cert.ReferenceIdeal.Value
open Cert.ReferenceIdeal.Values Cert.Counting

section

variable (x : FVec Ideal S2x4096x2048 .f32) (w : FVec Ideal S2048x16 .f32) (g : Fin 2)

/-- A row of the reference's logits is the token's scores. -/
theorem logits_row (t : Fin 4096) : rowOf (logits x w) g t = scores x w g t :=
  funext fun e => logits_apply g t x w e

/-- A row of its probabilities is their softmax. -/
theorem probs_row (t : Fin 4096) : rowOf (probs (logits x w)) g t = soft (scores x w g t) := by
  rw [← logits_row]
  exact funext fun e => probs_apply (logits x w) g t e

/-- Real arguments have real scores. -/
theorem scores_real (hx : ∀ i, ∃ r : ℝ, x i = (r : EReal)) (hw : ∀ i, ∃ r : ℝ, w i = (r : EReal)) (t : Fin 4096) :
    ∃ l : Fin 16 → ℝ, ∀ e, scores x w g t e = (l e : EReal) := by
  have h : ∀ e, ∃ r : ℝ, scores x w g t e = (r : EReal) := fun e =>
    Cert.Pre_finite.Values.dot_real _ _ (fun _ => hx _) (fun _ => hw _)
  choose l hl using h
  exact ⟨l, hl⟩

variable (hx : ∀ i, ∃ r : ℝ, x i = (r : EReal)) (hw : ∀ i, ∃ r : ℝ, w i = (r : EReal))
include hx hw

open Classical in
/-- The reference's choices are flags of where each token goes. -/
theorem flags (e : Fin 16) (t : Fin 4096) :
    oneHot (choice (probs (logits x w))) (ix3 g t e) = if Goes x w g e t.val then 1#32 else 0#32 := by
  obtain ⟨l, hl⟩ := scores_real x w g hx hw t
  obtain ⟨a, ha, hc⟩ := choice_apply g t (probs (logits x w)) (fun k => by rw [probs_row]; exact soft_bot hl k)
  rw [oneHot_apply g t _ a e hc]
  rw [probs_row, first_map (soft_le hl)] at ha
  refine if_congr ⟨fun h => ⟨t.isLt, h ▸ ha⟩, fun ⟨_, h⟩ => ha.unique h⟩ rfl rfl

end

variable (m : (ℓ : Loc nD τ sig) → Buf (Elt Ideal) ℓ) (c : Dev nD)
variable (hx : ∀ i, ∃ r : ℝ, tokens m c i = (r : EReal)) (hw : ∀ i, ∃ r : ℝ, weights m c i = (r : EReal))

include hx hw in
/-- The first result: the kept choices. -/
theorem first_eq : (G2 m c : Vec Ideal S2x4096x16 .i32)
    = kept (oneHot (choice (probs (logits (tokens m c) (weights m c))))) := by
  classical
  funext i
  idx_vars i
  rw [first_result, kept_apply _ _ _ _ (Goes (tokens m c) (weights m c) _ _)
    (fun t' => flags (tokens m c) (weights m c) _ hx hw _ t')]

include hx hw in
/-- The second result: the greatest probabilities. -/
theorem second_eq : (G3 m c : Vec Ideal S2x4096x1 .f32) = best (probs (logits (tokens m c) (weights m c))) := by
  funext i
  idx_vars i
  obtain rfl : i2 = 0 := Subsingleton.elim _ _
  obtain ⟨l, hl⟩ := scores_real (tokens m c) (weights m c) i0 hx hw i1
  rw [second_result, best_apply, probs_row, soft_max hl, expSum]

/-- The third result: the logits. -/
theorem third_eq : (G4 m c : Vec Ideal S2x4096x16 .f32) = logits (tokens m c) (weights m c) := by
  funext i
  idx_vars i
  rw [third_result, logits_apply, scores]

end Cert.Equation

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.KernelIdeal.Value
public import proofs.«01_k».proof.Proof.RefRun
public import proofs.«01_k».proof.Proof.Equation
public import Idealize.ShloMosaic.Adequacy
public import Idealize.ShloMosaic.Init

@[expose] public section

noncomputable section

namespace Cert.Proof

open Idealize.ShloMosaic Idealize.SL.Sem Cert.Kernel

/-- On real arguments the kernel and the reference end with the same three results. -/
theorem algebraic : algebraic_KernelIdeal_ReferenceIdeal_pre_finite (hKernelIdeal := Cert.KernelIdeal.Gen.facts)
    (hReferenceIdeal := Cert.ReferenceIdeal.Gen.facts) (hPre_finite := Cert.Pre_finite.Gen.facts) := by
  intro m g m' g' hpre hagree
  refine ⟨Cert.KernelIdeal.Value.G2 m, Cert.KernelIdeal.Value.G3 m, Cert.KernelIdeal.Value.G4 m,
    Cert.KernelIdeal.Value.run m g, (θ_run Cert.ReferenceIdeal.defs _ _).mono (fun r h c => ?_) (Cert.ReferenceIdeal.Value.run m' g')⟩
  obtain ⟨h0, h1, h2, ha, hb⟩ := h c
  obtain ⟨hx, hw⟩ := Cert.Pre_finite.Values.reals _ _ (hpre c)
  refine ⟨h0.trans ?_, h1.trans ?_, h2.trans ?_, ha, hb⟩
  · rw [(hagree c).1, (hagree c).2]
    exact (Cert.Equation.first_eq m c hx hw).symm
  · rw [(hagree c).1, (hagree c).2]
    exact (Cert.Equation.second_eq m c hx hw).symm
  · rw [(hagree c).1, (hagree c).2]
    exact (Cert.Equation.third_eq m c).symm

/-- Everything claimed: the frames of the three programs, that the ideal kernel is the kernel, and the equation. -/
theorem claim : Cert.Claim := ⟨Cert.Kernel.Gen.facts, Cert.KernelIdeal.Gen.facts, Cert.ReferenceIdeal.Gen.facts, Cert.Pre_finite.Gen.facts,
  fun m g _ => Cert.Kernel.Gen.frame m g,
  fun m g _ => Cert.KernelIdeal.Gen.frame m g,
  fun m g _ => Cert.KernelIdeal.Gen.frame m g,
  fun m g _ => Cert.ReferenceIdeal.Value.frame m g,
  fun m g _ => Cert.ReferenceIdeal.Value.frame m g,
  trivial, algebraic⟩

end Cert.Proof

end
